-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)) (v3 : (c : Dev Cert.KernelIdeal.nD) → Buf (Elt Ideal) ((c.tc : Thread Cert.KernelIdeal.nD Cert.KernelIdeal.τ).loc Cert.KernelIdeal.main_v94_3)) (v4 : (c : Dev Cert.KernelIdeal.nD) → Buf (Elt Ideal) ((c.tc : Thread Cert.KernelIdeal.nD Cert.KernelIdeal.τ).loc Cert.KernelIdeal.main_v94_4)) (v5 : (c : Dev Cert.KernelIdeal.nD) → Buf (Elt Ideal) ((c.tc : Thread Cert.KernelIdeal.nD Cert.KernelIdeal.τ).loc Cert.KernelIdeal.main_v94_5)) (v6 : (c : Dev Cert.KernelIdeal.nD) → Buf (Elt Ideal) ((c.tc : Thread Cert.KernelIdeal.nD Cert.KernelIdeal.τ).loc Cert.KernelIdeal.main_v94_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_v94_2) = v2 c
          ∧ r.2.mem ((c.tc : Thread Cert.KernelIdeal.nD Cert.KernelIdeal.τ).loc Cert.KernelIdeal.main_v94_3) = v3 c
          ∧ r.2.mem ((c.tc : Thread Cert.KernelIdeal.nD Cert.KernelIdeal.τ).loc Cert.KernelIdeal.main_v94_4) = v4 c
          ∧ r.2.mem ((c.tc : Thread Cert.KernelIdeal.nD Cert.KernelIdeal.τ).loc Cert.KernelIdeal.main_v94_5) = v5 c
          ∧ r.2.mem ((c.tc : Thread Cert.KernelIdeal.nD Cert.KernelIdeal.τ).loc Cert.KernelIdeal.main_v94_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v199) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_v201) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v180) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)) (v5 : (c : Dev Cert.Kernel2Ideal.nD) → Buf (Elt Ideal) ((c.tc : Thread Cert.Kernel2Ideal.nD Cert.Kernel2Ideal.τ).loc Cert.Kernel2Ideal.main_v21_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_v21_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_v49) = v3 c
          ∧ r.2.mem ((c.tc : Thread Cert.Reference2Ideal.nD Cert.Reference2Ideal.τ).loc Cert.Reference2Ideal.main_v50) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_v20) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v67) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_v69) = v3 c
          ∧ r.2.mem ((c.tc : Thread Cert.Reference6Ideal.nD Cert.Reference6Ideal.τ).loc Cert.Reference6Ideal.main_v70) = v4 c
          ∧ r.2.mem ((c.tc : Thread Cert.Reference6Ideal.nD Cert.Reference6Ideal.τ).loc Cert.Reference6Ideal.main_v50) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_pool_finite : Cert.Pre_pool_finite.Facts) (hPre_ffn_finite : Cert.Pre_ffn_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_ffn_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S2816x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S2816x1024 .f32 := broadcastInDim S2816x1024 ![] bcast_S_S2816x1024 main_cst_13
  let main_v35 : IVec S2816x1024 1 := cmpf .ogt main_arg5 main_v34
  let main_cst_14 : FVec F S_ .f32 := constant S_ .f32 0x7F800000#32
  let main_v36 : FVec F S2816x1024 .f32 := broadcastInDim S2816x1024 ![] bcast_S_S2816x1024 main_cst_14
  let main_v37 : IVec S2816x1024 1 := cmpf .olt main_arg5 main_v36
  let main_v38 : IVec S2816x1024 1 := andi main_v35 main_v37
  let main_c_15 : IVec S_ 1 := constantI S_ 1 1#1
  let main_v39 : IVec S_ 1 := (fun x v => Host.reduce IntOp.andi x v reducesTo_S2816x1024_S_d0_1 h_S_) main_v38 main_c_15
  let main_v40 : IVec S_ 1 := andi main_v33 main_v39
  main_v40

def fn_part1 {F : FTy → Type} [FloatOps F] (main_arg2 : FVec F S1x1024 .f32) (main_arg3 : FVec F S1024x2816 .f32) (main_arg4 : FVec F S1024x2816 .f32) (main_arg5 : FVec F S2816x1024 .f32) (main_v12 : IVec S_ 1) (main_v14 : IVec S1x1024 1) (main_v15 : FVec F S1x1024 .f32) : IVec S_ 1 :=
  let main_v16 : IVec S1x1024 1 := cmpf .olt main_arg2 main_v15
  let main_v17 : IVec S1x1024 1 := andi main_v14 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v12 main_v18
  let main_cst_7 : FVec F S_ .f32 := constant S_ .f32 0xFF800000#32
  let main_v20 : FVec F S1024x2816 .f32 := broadcastInDim S1024x2816 ![] bcast_S_S1024x2816 main_cst_7
  let main_v21 : IVec S1024x2816 1 := cmpf .ogt main_arg3 main_v20
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_arg3 main_v22
  let main_v24 : IVec S1024x2816 1 := andi main_v21 main_v23
  let main_c_9 : IVec S_ 1 := constantI S_ 1 1#1
  let main_v25 : IVec S_ 1 := (fun x v => Host.reduce IntOp.andi x v reducesTo_S1024x2816_S_d0_1 h_S_) main_v24 main_c_9
  let main_v26 : IVec S_ 1 := andi main_v19 main_v25
  let main_cst_10 : FVec F S_ .f32 := constant S_ .f32 0xFF800000#32
  let main_v27 : FVec F S1024x2816 .f32 := broadcastInDim S1024x2816 ![] bcast_S_S1024x2816 main_cst_10
  let main_v28 : IVec S1024x2816 1 := cmpf .ogt main_arg4 main_v27
  let main_cst_11 : FVec F S_ .f32 := constant S_ .f32 0x7F800000#32
  let main_v29 : FVec F S1024x2816 .f32 := broadcastInDim S1024x2816 ![] bcast_S_S1024x2816 main_cst_11
  let main_v30 : IVec S1024x2816 1 := cmpf .olt main_arg4 main_v29
  let main_v31 : IVec S1024x2816 1 := andi main_v28 main_v30
  let main_c_12 : IVec S_ 1 := constantI S_ 1 1#1
  let main_v32 : IVec S_ 1 := (fun x v => Host.reduce IntOp.andi x v reducesTo_S1024x2816_S_d0_1 h_S_) main_v31 main_c_12
  fn_part2 (F := F) main_arg5 main_v26 main_v32

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S1x1024 .f32 := broadcastInDim S1x1024 ![] bcast_S_S1x1024 main_cst_4
  let main_v14 : IVec S1x1024 1 := cmpf .ogt main_arg2 main_v13
  let main_cst_5 : FVec F S_ .f32 := constant S_ .f32 0x7F800000#32
  let main_v15 : FVec F S1x1024 .f32 := broadcastInDim S1x1024 ![] bcast_S_S1x1024 main_cst_5
  fn_part1 (F := F) main_arg2 main_arg3 main_arg4 main_arg5 main_v12 main_v14 main_v15
-- ==== Pre_pool_finite.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part2 {F : FTy → Type} [FloatOps F] (main_arg5 : FVec F S1x1024 .f32) (main_arg6 : FVec F S1024x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S1x1024 .f32 := broadcastInDim S1x1024 ![] bcast_S_S1x1024 main_cst_13
  let main_v35 : IVec S1x1024 1 := cmpf .ogt main_arg5 main_v34
  let main_cst_14 : FVec F S_ .f32 := constant S_ .f32 0x7F800000#32
  let main_v36 : FVec F S1x1024 .f32 := broadcastInDim S1x1024 ![] bcast_S_S1x1024 main_cst_14
  let main_v37 : IVec S1x1024 1 := cmpf .olt main_arg5 main_v36
  let main_v38 : IVec S1x1024 1 := andi main_v35 main_v37
  let main_c_15 : IVec S_ 1 := constantI S_ 1 1#1
  let main_v39 : IVec S_ 1 := (fun x v => Host.reduce IntOp.andi x v reducesTo_S1x1024_S_d0_1 h_S_) main_v38 main_c_15
  let main_v40 : IVec S_ 1 := andi main_v33 main_v39
  let main_cst_16 : FVec F S_ .f32 := constant S_ .f32 0xFF800000#32
  let main_v41 : FVec F S1024x1024 .f32 := broadcastInDim S1024x1024 ![] bcast_S_S1024x1024 main_cst_16
  let main_v42 : IVec S1024x1024 1 := cmpf .ogt main_arg6 main_v41
  let main_cst_17 : FVec F S_ .f32 := constant S_ .f32 0x7F800000#32
  let main_v43 : FVec F S1024x1024 .f32 := broadcastInDim S1024x1024 ![] bcast_S_S1024x1024 main_cst_17
  let main_v44 : IVec S1024x1024 1 := cmpf .olt main_arg6 main_v43
  let main_v45 : IVec S1024x1024 1 := andi main_v42 main_v44
  let main_c_18 : IVec S_ 1 := constantI S_ 1 1#1
  let main_v46 : IVec S_ 1 := (fun x v => Host.reduce IntOp.andi x v reducesTo_S1024x1024_S_d0_1 h_S_) main_v45 main_c_18
  let main_v47 : IVec S_ 1 := andi main_v40 main_v46
  main_v47

def fn_part1 {F : FTy → Type} [FloatOps F] (main_arg2 : FVec F S1x1024 .f32) (main_arg3 : FVec F S1024x1024 .f32) (main_arg4 : FVec F S4x256x256 .f32) (main_arg5 : FVec F S1x1024 .f32) (main_arg6 : FVec F S1024x1024 .f32) (main_v12 : IVec S_ 1) (main_v14 : IVec S1x1024 1) (main_v15 : FVec F S1x1024 .f32) : IVec S_ 1 :=
  let main_v16 : IVec S1x1024 1 := cmpf .olt main_arg2 main_v15
  let main_v17 : IVec S1x1024 1 := andi main_v14 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v12 main_v18
  let main_cst_7 : FVec F S_ .f32 := constant S_ .f32 0xFF800000#32
  let main_v20 : FVec F S1024x1024 .f32 := broadcastInDim S1024x1024 ![] bcast_S_S1024x1024 main_cst_7
  let main_v21 : IVec S1024x1024 1 := cmpf .ogt main_arg3 main_v20
  let main_cst_8 : FVec F S_ .f32 := constant S_ .f32 0x7F800000#32
  let main_v22 : FVec F S1024x1024 .f32 := broadcastInDim S1024x1024 ![] bcast_S_S1024x1024 main_cst_8
  let main_v23 : IVec S1024x1024 1 := cmpf .olt main_arg3 main_v22
  let main_v24 : IVec S1024x1024 1 := andi main_v21 main_v23
  let main_c_9 : IVec S_ 1 := constantI S_ 1 1#1
  let main_v25 : IVec S_ 1 := (fun x v => Host.reduce IntOp.andi x v reducesTo_S1024x1024_S_d0_1 h_S_) main_v24 main_c_9
  let main_v26 : IVec S_ 1 := andi main_v19 main_v25
  let main_cst_10 : FVec F S_ .f32 := constant S_ .f32 0xFF800000#32
  let main_v27 : FVec F S4x256x256 .f32 := broadcastInDim S4x256x256 ![] bcast_S_S4x256x256 main_cst_10
  let main_v28 : IVec S4x256x256 1 := cmpf .ogt main_arg4 main_v27
  let main_cst_11 : FVec F S_ .f32 := constant S_ .f32 0x7F800000#32
  let main_v29 : FVec F S4x256x256 .f32 := broadcastInDim S4x256x256 ![] bcast_S_S4x256x256 main_cst_11
  let main_v30 : IVec S4x256x256 1 := cmpf .olt main_arg4 main_v29
  let main_v31 : IVec S4x256x256 1 := andi main_v28 main_v30
  let main_c_12 : IVec S_ 1 := constantI S_ 1 1#1
  let main_v32 : IVec S_ 1 := (fun x v => Host.reduce IntOp.andi x v reducesTo_S4x256x256_S_d0_1_2 h_S_) main_v31 main_c_12
  fn_part2 (F := F) main_arg5 main_arg6 main_v26 main_v32

def fn {F : FTy → Type} [FloatOps F] (main_arg0 : FVec F S8192x1024 .f32) (main_arg1 : FVec F S8192x1024 .f32) (main_arg2 : FVec F S1x1024 .f32) (main_arg3 : FVec F S1024x1024 .f32) (main_arg4 : FVec F S4x256x256 .f32) (main_arg5 : FVec F S1x1024 .f32) (main_arg6 : FVec F S1024x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S1x1024 .f32 := broadcastInDim S1x1024 ![] bcast_S_S1x1024 main_cst_4
  let main_v14 : IVec S1x1024 1 := cmpf .ogt main_arg2 main_v13
  let main_cst_5 : FVec F S_ .f32 := constant S_ .f32 0x7F800000#32
  let main_v15 : FVec F S1x1024 .f32 := broadcastInDim S1x1024 ![] bcast_S_S1x1024 main_cst_5
  fn_part1 (F := F) main_arg2 main_arg3 main_arg4 main_arg5 main_arg6 main_v12 main_v14 main_v15
-- ==== Kernel.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S8192x1x256 : Shape := ⟨3, ![8192, 1, 256]⟩
abbrev S8192x256 : Shape := ⟨2, ![8192, 256]⟩
abbrev S2x256 : Shape := ⟨2, ![2, 256]⟩
abbrev S8194x256 : Shape := ⟨2, ![8194, 256]⟩
abbrev S4x256 : Shape := ⟨2, ![4, 256]⟩
abbrev S8196x256 : Shape := ⟨2, ![8196, 256]⟩
abbrev S8x256 : Shape := ⟨2, ![8, 256]⟩
abbrev S8200x256 : Shape := ⟨2, ![8200, 256]⟩
abbrev S16x256 : Shape := ⟨2, ![16, 256]⟩
abbrev S8208x256 : Shape := ⟨2, ![8208, 256]⟩
abbrev S512x1024 : Shape := ⟨2, ![512, 1024]⟩
abbrev S16x1024 : Shape := ⟨2, ![16, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S528x256 : Shape := ⟨2, ![528, 256]⟩
abbrev S512 : Shape := ⟨1, ![512]⟩
abbrev S1024 : Shape := ⟨1, ![1024]⟩

abbrev nBuf : Space → Nat
  | .hbm => 125
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S4x256x256, .f32⟩
  | .hbm, ⟨5, _⟩ => ⟨S1x1024, .f32⟩
  | .hbm, ⟨6, _⟩ => ⟨S1024x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x4x256, .f32⟩
  | .hbm, ⟨24, _⟩ => ⟨S_, .f32⟩
  | .hbm, ⟨25, _⟩ => ⟨S_, .f32⟩
  | .hbm, ⟨26, _⟩ => ⟨S8192x4x256, .f32⟩
  | .hbm, ⟨27, _⟩ => ⟨S8192, .i32⟩
  | .hbm, ⟨28, _⟩ => ⟨S8192x1x256, .f32⟩
  | .hbm, ⟨29, _⟩ => ⟨S8192x256, .f32⟩
  | .hbm, ⟨30, _⟩ => ⟨S_, .f32⟩
  | .hbm, ⟨31, _⟩ => ⟨S2x256, .f32⟩
  | .hbm, ⟨32, _⟩ => ⟨S8194x256, .f32⟩
  | .hbm, ⟨33, _⟩ => ⟨S8192x256, .f32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x1x256, .f32⟩
  | .hbm, ⟨46, _⟩ => ⟨S8192x256, .f32⟩
  | .hbm, ⟨47, _⟩ => ⟨S8192x256, .f32⟩
  | .hbm, ⟨48, _⟩ => ⟨S8192x1x256, .f32⟩
  | .hbm, ⟨49, _⟩ => ⟨S8192x256, .f32⟩
  | .hbm, ⟨50, _⟩ => ⟨S_, .f32⟩
  | .hbm, ⟨51, _⟩ => ⟨S4x256, .f32⟩
  | .hbm, ⟨52, _⟩ => ⟨S8196x256, .f32⟩
  | .hbm, ⟨53, _⟩ => ⟨S8192x256, .f32⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .f32⟩
  | .hbm, ⟨61, _⟩ => ⟨S8192x1, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S8192x1x256, .f32⟩
  | .hbm, ⟨66, _⟩ => ⟨S8192x256, .f32⟩
  | .hbm, ⟨67, _⟩ => ⟨S8192x256, .f32⟩
  | .hbm, ⟨68, _⟩ => ⟨S8192x1x256, .f32⟩
  | .hbm, ⟨69, _⟩ => ⟨S8192x256, .f32⟩
  | .hbm, ⟨70, _⟩ => ⟨S_, .f32⟩
  | .hbm, ⟨71, _⟩ => ⟨S8x256, .f32⟩
  | .hbm, ⟨72, _⟩ => ⟨S8200x256, .f32⟩
  | .hbm, ⟨73, _⟩ => ⟨S8192x256, .f32⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .f32⟩
  | .hbm, ⟨81, _⟩ => ⟨S8192x1, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S8192x1x256, .f32⟩
  | .hbm, ⟨86, _⟩ => ⟨S8192x256, .f32⟩
  | .hbm, ⟨87, _⟩ => ⟨S8192x256, .f32⟩
  | .hbm, ⟨88, _⟩ => ⟨S8192x1x256, .f32⟩
  | .hbm, ⟨89, _⟩ => ⟨S8192x256, .f32⟩
  | .hbm, ⟨90, _⟩ => ⟨S_, .f32⟩
  | .hbm, ⟨91, _⟩ => ⟨S16x256, .f32⟩
  | .hbm, ⟨92, _⟩ => ⟨S8208x256, .f32⟩
  | .hbm, ⟨93, _⟩ => ⟨S8192x256, .f32⟩
  | .hbm, ⟨94, _⟩ => ⟨S_, .i32⟩
  | .hbm, ⟨95, _⟩ => ⟨S8192, .i32⟩
  | .hbm, ⟨96, _⟩ => ⟨S8192, .i32⟩
  | .hbm, ⟨97, _⟩ => ⟨S_, .i32⟩
  | .hbm, ⟨98, _⟩ => ⟨S8192, .i32⟩
  | .hbm, ⟨99, _⟩ => ⟨S8192, .i32⟩
  | .hbm, ⟨100, _⟩ => ⟨S8192, .f32⟩
  | .hbm, ⟨101, _⟩ => ⟨S8192x1, .f32⟩
  | .hbm, ⟨102, _⟩ => ⟨S8192x256, .f32⟩
  | .hbm, ⟨103, _⟩ => ⟨S8192x256, .f32⟩
  | .hbm, ⟨104, _⟩ => ⟨S8192x256, .f32⟩
  | .hbm, ⟨105, _⟩ => ⟨S8192x1x256, .f32⟩
  | .hbm, ⟨106, _⟩ => ⟨S8192x256, .f32⟩
  | .hbm, ⟨107, _⟩ => ⟨S8192x256, .f32⟩
  | .hbm, ⟨108, _⟩ => ⟨S8192x1x256, .f32⟩
  | .hbm, ⟨109, _⟩ => ⟨S8192x1x256, .f32⟩
  | .hbm, ⟨110, _⟩ => ⟨S8192x1x256, .f32⟩
  | .hbm, ⟨111, _⟩ => ⟨S8192x1x256, .f32⟩
  | .hbm, ⟨112, _⟩ => ⟨S8192x4x256, .f32⟩
  | .hbm, ⟨113, _⟩ => ⟨S8192x1024, .f32⟩
  | .hbm, ⟨114, _⟩ => ⟨S8192x1024, .bf16⟩
  | .hbm, ⟨115, _⟩ => ⟨S1024x1024, .bf16⟩
  | .hbm, ⟨116, _⟩ => ⟨S4x256x256, .bf16⟩
  | .hbm, ⟨117, _⟩ => ⟨S1024x1024, .bf16⟩
  | .hbm, ⟨118, _⟩ => ⟨S8192x1024, .f32⟩
  | .hbm, ⟨119, _⟩ => ⟨S8192x1024, .bf16⟩
  | .hbm, ⟨120, _⟩ => ⟨S8192x1024, .bf16⟩
  | .hbm, ⟨121, _⟩ => ⟨S8192x1024, .bf16⟩
  | .hbm, ⟨122, _⟩ => ⟨S8192x1024, .bf16⟩
  | .hbm, ⟨123, _⟩ => ⟨S1x1024, .f32⟩
  | .hbm, ⟨124, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S4x256x256, .bf16⟩
  | .local _ .vmem, ⟨9, _⟩ => ⟨S1x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x1024, .f32⟩
  | .local _ .vmem, ⟨23, _⟩ => ⟨S16x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_call0_cst : Ref sig .tc := ⟨.hbm, 24, rfl⟩
abbrev main_call0_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_11 : Ref sig .tc := ⟨.hbm, 94, rfl⟩
abbrev main_v72 : Ref sig .tc := ⟨.hbm, 95, rfl⟩
abbrev main_v73 : Ref sig .tc := ⟨.hbm, 96, rfl⟩
abbrev main_c_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94_0 : Ref sig .tc := ⟨.hbm, 118, rfl⟩
abbrev main_v94_1 : Ref sig .tc := ⟨.hbm, 119, rfl⟩
abbrev main_v94_2 : Ref sig .tc := ⟨.hbm, 120, rfl⟩
abbrev main_v94_3 : Ref sig .tc := ⟨.hbm, 121, rfl⟩
abbrev main_v94_4 : Ref sig .tc := ⟨.hbm, 122, rfl⟩
abbrev main_v94_5 : Ref sig .tc := ⟨.hbm, 123, rfl⟩
abbrev main_v94_6 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S8192x1x256 : Shape := ⟨3, ![8192, 1, 256]⟩
abbrev S8192x256 : Shape := ⟨2, ![8192, 256]⟩
abbrev S2x256 : Shape := ⟨2, ![2, 256]⟩
abbrev S8194x256 : Shape := ⟨2, ![8194, 256]⟩
abbrev S4x256 : Shape := ⟨2, ![4, 256]⟩
abbrev S8196x256 : Shape := ⟨2, ![8196, 256]⟩
abbrev S8x256 : Shape := ⟨2, ![8, 256]⟩
abbrev S8200x256 : Shape := ⟨2, ![8200, 256]⟩
abbrev S16x256 : Shape := ⟨2, ![16, 256]⟩
abbrev S8208x256 : Shape := ⟨2, ![8208, 256]⟩
abbrev S4x256x8192 : Shape := ⟨3, ![4, 256, 8192]⟩
abbrev S1024 : Shape := ⟨1, ![1024]⟩
abbrev S4x8192x256 : Shape := ⟨3, ![4, 8192, 256]⟩

abbrev nBuf : Space → Nat
  | .hbm => 250
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x1024, .f32⟩
  | 4 => ⟨S4x256x256, .f32⟩
  | 5 => ⟨S1x1024, .f32⟩
  | 6 => ⟨S1024x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x4x256, .f32⟩
  | 28 => ⟨S_, .f32⟩
  | 29 => ⟨S_, .f32⟩
  | 30 => ⟨S8192x4x256, .f32⟩
  | 31 => ⟨S8192, .i32⟩
  | 32 => ⟨S8192x1x256, .f32⟩
  | 33 => ⟨S8192x256, .f32⟩
  | 34 => ⟨S_, .f32⟩
  | 35 => ⟨S2x256, .f32⟩
  | 36 => ⟨S8194x256, .f32⟩
  | 37 => ⟨S_, .f32⟩
  | 38 => ⟨S2x256, .f32⟩
  | 39 => ⟨S8192x256, .f32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S8192x1, .f32⟩
  | 48 => ⟨S8192x256, .f32⟩
  | 49 => ⟨S8192x256, .f32⟩
  | 50 => ⟨S8192x256, .f32⟩
  | 51 => ⟨S8192x1x256, .f32⟩
  | 52 => ⟨S8192x256, .f32⟩
  | 53 => ⟨S8192x256, .f32⟩
  | 54 => ⟨S8192x1x256, .f32⟩
  | 55 => ⟨S8192x256, .f32⟩
  | 56 => ⟨S_, .f32⟩
  | 57 => ⟨S4x256, .f32⟩
  | 58 => ⟨S8196x256, .f32⟩
  | 59 => ⟨S_, .f32⟩
  | 60 => ⟨S4x256, .f32⟩
  | 61 => ⟨S8192x256, .f32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .f32⟩
  | 69 => ⟨S8192x1, .f32⟩
  | 70 => ⟨S8192x256, .f32⟩
  | 71 => ⟨S8192x256, .f32⟩
  | 72 => ⟨S8192x256, .f32⟩
  | 73 => ⟨S8192x1x256, .f32⟩
  | 74 => ⟨S8192x256, .f32⟩
  | 75 => ⟨S8192x256, .f32⟩
  | 76 => ⟨S8192x1x256, .f32⟩
  | 77 => ⟨S8192x256, .f32⟩
  | 78 => ⟨S_, .f32⟩
  | 79 => ⟨S8x256, .f32⟩
  | 80 => ⟨S8200x256, .f32⟩
  | 81 => ⟨S_, .f32⟩
  | 82 => ⟨S8x256, .f32⟩
  | 83 => ⟨S8192x256, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S8192x1, .f32⟩
  | 92 => ⟨S8192x256, .f32⟩
  | 93 => ⟨S8192x256, .f32⟩
  | 94 => ⟨S8192x256, .f32⟩
  | 95 => ⟨S8192x1x256, .f32⟩
  | 96 => ⟨S8192x256, .f32⟩
  | 97 => ⟨S8192x256, .f32⟩
  | 98 => ⟨S8192x1x256, .f32⟩
  | 99 => ⟨S8192x256, .f32⟩
  | 100 => ⟨S_, .f32⟩
  | 101 => ⟨S16x256, .f32⟩
  | 102 => ⟨S8208x256, .f32⟩
  | 103 => ⟨S_, .f32⟩
  | 104 => ⟨S16x256, .f32⟩
  | 105 => ⟨S8192x256, .f32⟩
  | 106 => ⟨S_, .i32⟩
  | 107 => ⟨S8192, .i32⟩
  | 108 => ⟨S8192, .i32⟩
  | 109 => ⟨S_, .i32⟩
  | 110 => ⟨S8192, .i32⟩
  | 111 => ⟨S8192, .i32⟩
  | 112 => ⟨S8192, .f32⟩
  | 113 => ⟨S8192x1, .f32⟩
  | 114 => ⟨S8192x256, .f32⟩
  | 115 => ⟨S8192x256, .f32⟩
  | 116 => ⟨S8192x256, .f32⟩
  | 117 => ⟨S8192x1x256, .f32⟩
  | 118 => ⟨S8192x256, .f32⟩
  | 119 => ⟨S8192x256, .f32⟩
  | 120 => ⟨S8192x1x256, .f32⟩
  | 121 => ⟨S8192x1x256, .f32⟩
  | 122 => ⟨S8192x1x256, .f32⟩
  | 123 => ⟨S8192x1x256, .f32⟩
  | 124 => ⟨S8192x4x256, .f32⟩
  | 125 => ⟨S4x256x8192, .f32⟩
  | 126 => ⟨S8192x4x256, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S8192x4x256, .f32⟩
  | 11 => ⟨S4x256x8192, .f32⟩
  | 12 => ⟨S4x8192x256, .f32⟩
  | 13 => ⟨S8192x4x256, .f32⟩
  | 14 => ⟨S8192x1x256, .f32⟩
  | 15 => ⟨S8192x256, .f32⟩
  | 16 => ⟨S8192x1x256, .f32⟩
  | 17 => ⟨S8192x256, .f32⟩
  | 18 => ⟨S8192x1x256, .f32⟩
  | 19 => ⟨S8192x256, .f32⟩
  | 20 => ⟨S8192x1x256, .f32⟩
  | 21 => ⟨S8192x256, .f32⟩
  | 22 => ⟨S8192x256, .f32⟩
  | 23 => ⟨S8192x1x256, .f32⟩
  | 24 => ⟨S_, .f32⟩
  | 25 => ⟨S8192x4x256, .f32⟩
  | 26 => ⟨S8192x256, .f32⟩
  | 27 => ⟨S8192x256, .f32⟩
  | 28 => ⟨S8192x256, .f32⟩
  | 29 => ⟨S_, .f32⟩
  | 30 => ⟨S8208x256, .f32⟩
  | 31 => ⟨S16x256, .f32⟩
  | 32 => ⟨S8192x256, .f32⟩
  | 33 => ⟨S8192x256, .f32⟩
  | 34 => ⟨S8192x1x256, .f32⟩
  | 35 => ⟨S_, .f32⟩
  | 36 => ⟨S8192x4x256, .f32⟩
  | 37 => ⟨S8192x256, .f32⟩
  | 38 => ⟨S8192x1x256, .f32⟩
  | 39 => ⟨S_, .f32⟩
  | 40 => ⟨S8192x4x256, .f32⟩
  | 41 => ⟨S8192x4x256, .f32⟩
  | 42 => ⟨S8192x256, .f32⟩
  | 43 => ⟨S8192x256, .f32⟩
  | 44 => ⟨S8192x256, .f32⟩
  | 45 => ⟨S_, .f32⟩
  | 46 => ⟨S8200x256, .f32⟩
  | 47 => ⟨S8x256, .f32⟩
  | 48 => ⟨S8192x256, .f32⟩
  | 49 => ⟨S8192x256, .f32⟩
  | 50 => ⟨S8192x1x256, .f32⟩
  | 51 => ⟨S_, .f32⟩
  | 52 => ⟨S8192x4x256, .f32⟩
  | 53 => ⟨S8192x4x256, .f32⟩
  | 54 => ⟨S8192x256, .f32⟩
  | 55 => ⟨S8192x1x256, .f32⟩
  | 56 => ⟨S_, .f32⟩
  | 57 => ⟨S8192x4x256, .f32⟩
  | 58 => ⟨S8192x4x256, .f32⟩
  | 59 => ⟨S8192x256, .f32⟩
  | 60 => ⟨S8192x256, .f32⟩
  | 61 => ⟨S8192x256, .f32⟩
  | 62 => ⟨S_, .f32⟩
  | 63 => ⟨S8196x256, .f32⟩
  | 64 => ⟨S4x256, .f32⟩
  | 65 => ⟨S8192x256, .f32⟩
  | 66 => ⟨S8192x256, .f32⟩
  | 67 => ⟨S8192x1x256, .f32⟩
  | 68 => ⟨S_, .f32⟩
  | 69 => ⟨S8192x4x256, .f32⟩
  | 70 => ⟨S8192x4x256, .f32⟩
  | 71 => ⟨S8192x256, .f32⟩
  | 72 => ⟨S8192x1x256, .f32⟩
  | 73 => ⟨S_, .f32⟩
  | 74 => ⟨S8192x4x256, .f32⟩
  | 75 => ⟨S8192x4x256, .f32⟩
  | 76 => ⟨S8192x256, .f32⟩
  | 77 => ⟨S8192x256, .f32⟩
  | 78 => ⟨S8192x256, .f32⟩
  | 79 => ⟨S_, .f32⟩
  | 80 => ⟨S8194x256, .f32⟩
  | 81 => ⟨S2x256, .f32⟩
  | 82 => ⟨S8192x256, .f32⟩
  | 83 => ⟨S8192x256, .f32⟩
  | 84 => ⟨S8192x1x256, .f32⟩
  | 85 => ⟨S_, .f32⟩
  | 86 => ⟨S8192x4x256, .f32⟩
  | 87 => ⟨S8192x4x256, .f32⟩
  | 88 => ⟨S_, .f32⟩
  | 89 => ⟨S_, .f32⟩
  | 90 => ⟨S8192x4x256, .f32⟩
  | 91 => ⟨S8192x4x256, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S8192x1024, .f32⟩
  | 101 => ⟨S_, .f32⟩
  | 102 => ⟨S8192, .f32⟩
  | 103 => ⟨S8192x1, .f32⟩
  | 104 => ⟨S8192x1024, .f32⟩
  | 105 => ⟨S8192x1024, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .bf16⟩
  | 119 => ⟨S8192x1024, .bf16⟩
  | 120 => ⟨S8192x1024, .bf16⟩
  | 121 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_call0_cst : Ref sig .tc := ⟨.hbm, 28, rfl⟩
abbrev main_call0_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_c_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_18 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_20 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_22 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_23 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_24 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_25 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_26 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_27 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_28 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_29 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_30 : Ref sig .tc := ⟨.hbm, 213, rfl⟩
abbrev main_v172 : Ref sig .tc := ⟨.hbm, 214, rfl⟩
abbrev main_v173 : Ref sig .tc := ⟨.hbm, 215, rfl⟩
abbrev main_call1_call0_cst : Ref sig .tc := ⟨.hbm, 216, rfl⟩
abbrev main_call1_call0_v0 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_31 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_32 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_cst_33 : Ref sig .tc := ⟨.hbm, 235, rfl⟩
abbrev main_v189 : Ref sig .tc := ⟨.hbm, 236, rfl⟩
abbrev main_v190 : Ref sig .tc := ⟨.hbm, 237, rfl⟩
abbrev main_cst_34 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S1024 : Shape := ⟨1, ![1024]⟩

abbrev nBuf : Space → Nat
  | .hbm => 36
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .bf16⟩
  | .hbm, ⟨24, _⟩ => ⟨S8192x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S8192x1024, .f32⟩
  | .hbm, ⟨31, _⟩ => ⟨S8192x2816, .bf16⟩
  | .hbm, ⟨32, _⟩ => ⟨S8192x2816, .bf16⟩
  | .hbm, ⟨33, _⟩ => ⟨S8192x1024, .bf16⟩
  | .hbm, ⟨34, _⟩ => ⟨S8192x1024, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1x1024, .f32⟩
  | .local _ .vmem, ⟨26, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_27 : BitVec 32 := 0#32
  let v48 : BitVec 1 := Scalar.cmpi .ne v47 c0_i32_27
  v48

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x2816, .bf16⟩
  | .hbm, ⟨77, _⟩ => ⟨S8192x2816, .bf16⟩
  | .hbm, ⟨78, _⟩ => ⟨S8192x1024, .bf16⟩
  | .hbm, ⟨79, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S8192x1024, .f32⟩
  | .hbm, ⟨11, _⟩ => ⟨S8192x2816, .bf16⟩
  | .hbm, ⟨12, _⟩ => ⟨S8192x2816, .bf16⟩
  | .hbm, ⟨13, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1024, .f32⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_20 : BitVec 32 := 0#32
  let v29 : BitVec 1 := Scalar.cmpi .ne v28 c0_i32_20
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S8192x1024, .f32⟩
  | .hbm, ⟨34, _⟩ => ⟨S8192x2816, .bf16⟩
  | .hbm, ⟨35, _⟩ => ⟨S8192x2816, .bf16⟩
  | .hbm, ⟨36, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S1x1 : Shape := ⟨2, ![1, 1]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 18
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .f32⟩
  | .hbm, ⟨13, _⟩ => ⟨S8192x2816, .bf16⟩
  | .hbm, ⟨14, _⟩ => ⟨S8192x2816, .bf16⟩
  | .hbm, ⟨15, _⟩ => ⟨S8192x2816, .bf16⟩
  | .hbm, ⟨16, _⟩ => ⟨S1x1, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S1x1, .f32⟩
  | .local _ .vmem, ⟨21, _⟩ => ⟨S1x1024, .f32⟩
  | .local _ .vmem, ⟨22, _⟩ => ⟨S512x1024, .f32⟩
  | .local _ .vmem, ⟨23, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_23 : BitVec 32 := 0#32
  let v34 : BitVec 1 := Scalar.cmpi .ne v33 c0_i32_23
  v34

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference6Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x2816, .bf16⟩
  | .hbm, ⟨102, _⟩ => ⟨S8192x2816, .bf16⟩
  | .hbm, ⟨103, _⟩ => ⟨S8192x2816, .bf16⟩
  | .hbm, ⟨104, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_cst_11 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Kernel7.lean ====
abbrev S8192x1024 : Shape := ⟨2, ![8192, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S_ : Shape := ⟨0, ![]⟩
abbrev S4x256x256 : Shape := ⟨3, ![4, 256, 256]⟩
abbrev S8192x4x256 : Shape := ⟨3, ![8192, 4, 256]⟩
abbrev S4x256x8192 : Shape := ⟨3, ![4, 256, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S4x256x256, .f32⟩
  | .hbm, ⟨4, _⟩ => ⟨S8192x4x256, .f32⟩
  | .hbm, ⟨5, _⟩ => ⟨S4x256x8192, .f32⟩
  | .hbm, ⟨6, _⟩ => ⟨S8192x4x256, .f32⟩
  | .hbm, ⟨7, _⟩ => ⟨S8192x1024, .f32⟩
  | .hbm, ⟨8, _⟩ => ⟨S8192x4x256, .f32⟩
  | .hbm, ⟨9, _⟩ => ⟨S4x256x8192, .f32⟩
  | .hbm, ⟨10, _⟩ => ⟨S4x256x256, .f32⟩
  | .hbm, ⟨11, _⟩ => ⟨S4x256x256, .f32⟩
  | .hbm, ⟨12, _⟩ => ⟨S4x256x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Reals.lean ====
/- Arithmetic of the extended reals at real values: which operations keep a value real, the gradient of the
   root-mean-square norm in its two spellings, and the window sum that a reversed running sum leaves. -/
module

public import Idealize.ShloMosaic.PureOps.Ideal.Laws
public import Idealize.ShloMosaic.Lib.IdealHost

@[expose] public section

noncomputable section

namespace Cert.Proof

open Idealize.ShloMosaic

/-- The value is a real number: neither infinity. -/
def IsR (a : EReal) : Prop := ∃ r : ℝ, a = (r : EReal)

theorem isR_of_ne {a : EReal} (ht : a ≠ ⊤) (hb : a ≠ ⊥) : IsR a :=
  ⟨a.toReal, (EReal.coe_toReal ht hb).symm⟩

theorem isR_coe (r : ℝ) : IsR (r : EReal) := ⟨r, rfl⟩
theorem isR_zero : IsR 0 := ⟨0, EReal.coe_zero.symm⟩

theorem IsR.add {a b : EReal} (ha : IsR a) (hb : IsR b) : IsR (a + b) := by
  obtain ⟨x, rfl⟩ := ha
  obtain ⟨y, rfl⟩ := hb
  exact ⟨x + y, (EReal.coe_add x y).symm⟩

theorem IsR.neg {a : EReal} (ha : IsR a) : IsR (-a) := by
  obtain ⟨x, rfl⟩ := ha
  exact ⟨-x, (EReal.coe_neg x).symm⟩

theorem IsR.sub {a b : EReal} (ha : IsR a) (hb : IsR b) : IsR (a - b) := by
  rw [sub_eq_add_neg]
  exact ha.add hb.neg

theorem IsR.mul {a b : EReal} (ha : IsR a) (hb : IsR b) : IsR (a * b) := by
  obtain ⟨x, rfl⟩ := ha
  obtain ⟨y, rfl⟩ := hb
  exact ⟨x * y, (EReal.coe_mul x y).symm⟩

theorem div_real (x : ℝ) {y : ℝ} (hy : y ≠ 0) : Ideal.div (x : EReal) (y : EReal) = ((x / y : ℝ) : EReal) := by
  unfold Ideal.div
  rw [if_neg (by simpa using hy), ← EReal.coe_inv, ← EReal.coe_mul, div_eq_mul_inv]

theorem IsR.div {a : EReal} (ha : IsR a) {y : ℝ} (hy : y ≠ 0) : IsR (Ideal.div a (y : EReal)) := by
  obtain ⟨x, rfl⟩ := ha
  exact ⟨x / y, div_real x hy⟩

theorem coe_sum {ι : Type} (s : Finset ι) (f : ι → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

theorem IsR.sum {ι : Type} {s : Finset ι} {f : ι → EReal} (hf : ∀ k ∈ s, IsR (f k)) : IsR (∑ k ∈ s, f k) := by
  induction s using Finset.cons_induction with
  | empty => simpa using isR_zero
  | cons a s ha ih =>
    rw [Finset.sum_cons]
    exact (hf a (Finset.mem_cons_self a s)).add (ih fun k hk => hf k (Finset.mem_cons_of_mem hk))

/-- The reciprocal root of a positive real. -/
theorem rsqrt_real {r : ℝ} (hr : 0 < r) : Ideal.rsqrt (r : EReal) = (((Real.sqrt r)⁻¹ : ℝ) : EReal) := by
  rw [Ideal.rsqrt_coe, if_neg (not_lt.2 hr.le), if_neg hr.ne']

/-! ## The root-mean-square norm -/

/-- The mean of the squares, plus `e`. -/
def meanSq {n : ℕ} (c e : EReal) (x : Fin n → EReal) : EReal := Ideal.div (∑ k, x k * x k) c + e

/-- The row's scale: the reciprocal root. -/
def rms {n : ℕ} (c e : EReal) (x : Fin n → EReal) : EReal := Ideal.rsqrt (meanSq c e x)

theorem meanSq_real {n : ℕ} (X : Fin n → ℝ) {c : ℝ} (e : ℝ) (hc : 0 < c) :
    meanSq (c : EReal) (e : EReal) (fun k => (X k : EReal)) = (((∑ k, X k * X k) / c + e : ℝ) : EReal) := by
  unfold meanSq
  simp only [← EReal.coe_mul]
  rw [← coe_sum, div_real _ hc.ne', EReal.coe_add]

theorem meanSq_pos {n : ℕ} (X : Fin n → ℝ) {c e : ℝ} (hc : 0 < c) (he : 0 < e) : 0 < (∑ k, X k * X k) / c + e :=
  add_pos_of_nonneg_of_pos (div_nonneg (Finset.sum_nonneg fun k _ => mul_self_nonneg (X k)) hc.le) he

theorem rms_isR {n : ℕ} {x : Fin n → EReal} {c e : ℝ} (hc : 0 < c) (he : 0 < e) (hx : ∀ k, IsR (x k)) :
    IsR (rms (c : EReal) (e : EReal) x) := by
  choose X hX using hx
  obtain rfl : x = fun k => (X k : EReal) := funext hX
  unfold rms
  rw [meanSq_real X e hc, rsqrt_real (meanSq_pos X hc he)]
  exact isR_coe _

/-- The norm's gradient with respect to its input: differentiating the mean of squares (the half of the derivative
    of the reciprocal root, met twice because the square has two factors) gives the projection form. -/
theorem rms_bwd {n : ℕ} {x d : Fin n → EReal} {c e : ℝ} (hc : 0 < c) (he : 0 < e) (hx : ∀ k, IsR (x k))
    (hd : ∀ k, IsR (d k)) (j : Fin n) :
    (d j * rms c e x + x j * Ideal.div ((∑ k, x k * d k) * (((-(1/2) : ℝ) : EReal) * Ideal.div (rms c e x) (meanSq c e x))) c)
        + Ideal.div ((∑ k, x k * d k) * (((-(1/2) : ℝ) : EReal) * Ideal.div (rms c e x) (meanSq c e x))) c * x j
      = rms c e x * (d j - (x j * rms c e x) * Ideal.div (∑ k, d k * (x k * rms c e x)) c) := by
  choose X hX using hx
  choose Y hY using hd
  obtain rfl : x = fun k => (X k : EReal) := funext hX
  obtain rfl : d = fun k => (Y k : EReal) := funext hY
  unfold rms
  have hm := meanSq_pos X hc he
  rw [meanSq_real X e hc, rsqrt_real hm]
  generalize hM : (∑ k, X k * X k) / c + e = M at hm ⊢
  have hs : Real.sqrt M ≠ 0 := (Real.sqrt_pos.2 hm).ne'
  have hq : Real.sqrt M * Real.sqrt M = M := Real.mul_self_sqrt hm.le
  rw [div_real _ hm.ne']
  simp only [← EReal.coe_mul, ← coe_sum]
  rw [div_real _ hc.ne', div_real _ hc.ne']
  simp only [← EReal.coe_mul, ← EReal.coe_add, ← EReal.coe_sub]
  refine congrArg _ ?_
  have h1 : ∑ k, Y k * (X k * (Real.sqrt M)⁻¹) = (∑ k, X k * Y k) * (Real.sqrt M)⁻¹ := by
    rw [Finset.sum_mul]
    exact Finset.sum_congr rfl fun k _ => by ring
  rw [h1]
  generalize ∑ k, X k * Y k = S
  clear hM h1
  generalize Real.sqrt M = s at hs hq ⊢
  subst hq
  field_simp
  ring

/-! ## Window sums -/

/-- The sum from `t` on of the differences `f s - f (s + w)`, `f` zero from `T` on, is the window `[t, t + w)`. -/
theorem window_of_suffix {f : ℕ → EReal} (hf : ∀ s, IsR (f s)) {T : ℕ} (hz : ∀ s, T ≤ s → f s = 0) (t w : ℕ) (ht : t ≤ T) :
    ∑ s ∈ Finset.Ico t T, (f s + -f (s + w)) = ∑ k ∈ Finset.range w, f (t + k) := by
  choose X hX using hf
  obtain rfl : f = fun k => (X k : EReal) := funext hX
  have hz' : ∀ s, T ≤ s → X s = 0 := fun s hs => by simpa using hz s hs
  simp only [← EReal.coe_neg, ← EReal.coe_add]
  rw [← coe_sum, ← coe_sum]
  refine congrArg _ ?_
  rw [Finset.sum_add_distrib, Finset.sum_neg_distrib]
  have h1 : ∑ s ∈ Finset.Ico t T, X s = ∑ s ∈ Finset.Ico t (T + w), X s := by
    rw [← Finset.sum_Ico_consecutive X ht (Nat.le_add_right T w), left_eq_add]
    exact Finset.sum_eq_zero fun s hs => hz' s (Finset.mem_Ico.1 hs).1
  have h2 : ∑ s ∈ Finset.Ico t T, X (s + w) = ∑ s ∈ Finset.Ico (t + w) (T + w), X s :=
    (Finset.sum_Ico_add' X t T w)
  have h3 : ∑ k ∈ Finset.range w, X (t + k) = ∑ s ∈ Finset.Ico t (t + w), X s := by
    rw [Finset.sum_Ico_eq_sum_range, Nat.add_sub_cancel_left]
  rw [h1, h2, h3, ← Finset.sum_Ico_consecutive X (Nat.le_add_right t w) (Nat.add_le_add_right ht w)]
  ring

end Cert.Proof

end
-- ==== Proof.Spec.lean ====
/- What the two programs compute, entry by entry, over the extended reals: the gradient of the causal mean-pool
   mixer and of the norm in front of it, for 8192 tokens of 1024 lanes in four groups of 256. -/
module

public import proofs.«01_k».proof.Proof.Reals

@[expose] public section

noncomputable section

namespace Cert.Proof

open Idealize.ShloMosaic

/-- The group of a lane, its place in the group, and the lane of a place. -/
def grp (j : Fin 1024) : Fin 4 := ⟨j.val / 256, by omega⟩
def sub (j : Fin 1024) : Fin 256 := ⟨j.val % 256, by omega⟩
def lane (g : Fin 4) (e : Fin 256) : Fin 1024 := ⟨g.val * 256 + e.val, by omega⟩

@[simp] theorem grp_lane (g : Fin 4) (e : Fin 256) : grp (lane g e) = g := Fin.ext (by simp only [grp, lane]; omega)
@[simp] theorem sub_lane (g : Fin 4) (e : Fin 256) : sub (lane g e) = e := Fin.ext (by simp only [sub, lane]; omega)
@[simp] theorem lane_grp_sub (j : Fin 1024) : lane (grp j) (sub j) = j := Fin.ext (by simp only [grp, sub, lane]; omega)

/-- Every lane is a place of a group. -/
theorem lane_cases {P : Fin 1024 → Prop} (h : ∀ g e, P (lane g e)) (j : Fin 1024) : P j :=
  lane_grp_sub j ▸ h (grp j) (sub j)

/-- The pooling window of each group. -/
def width (g : Fin 4) : ℕ := ![2, 4, 8, 16] g

theorem width_pos (g : Fin 4) : 0 < width g := by fin_cases g <;> decide

/-- The number of tokens a mean is of, as the programs compute it in 32-bit integers. -/
theorem count_eq (s : ℕ) (hs : s < 8192) (b : BitVec 32) (w : ℕ) (hb : b = BitVec.ofNat 32 w) (hw : w < 8192) :
    (FloatOps.sitofp .f32 (IntOp.minsi (IntOp.addi (BitVec.ofNat 32 s) 1#32) b) : Ideal .f32)
      = (((min (s + 1) w : ℕ) : ℝ) : EReal) := by
  show ((BitVec.toInt _ : ℝ) : EReal) = _
  refine congrArg _ ?_
  rw [show ((min (s + 1) w : ℕ) : ℝ) = (((min (s + 1) w : ℕ) : ℤ) : ℝ) by push_cast; rfl]
  refine congrArg _ ?_
  subst hb
  have h1 : (IntOp.addi (BitVec.ofNat 32 s) 1#32).toInt = ((s + 1 : ℕ) : ℤ) := by
    show (BitVec.ofNat 32 s + 1#32).toInt = _
    rw [BitVec.toInt_eq_toNat_of_lt] <;> simp only [BitVec.toNat_add, BitVec.toNat_ofNat] <;> omega
  have h2 : (BitVec.ofNat 32 w).toInt = (w : ℤ) := by
    rw [BitVec.toInt_eq_toNat_of_lt] <;> simp only [BitVec.toNat_ofNat] <;> omega
  simp only [IntOp.minsi, BitVec.slt, h1, h2, decide_eq_true_eq]
  split <;> simp only [h1, h2] <;> omega

/-- The arrays both programs read: the cotangent, the layer's input, the norm's gain, the pooled differences and
    the weights. -/
structure Arrays where
  dx1 : Fin 8192 → Fin 1024 → EReal
  x0 : Fin 8192 → Fin 1024 → EReal
  g0 : Fin 1024 → EReal
  p : Fin 8192 → Fin 1024 → EReal
  win : Fin 1024 → Fin 1024 → EReal
  wgrp : Fin 4 → Fin 256 → Fin 256 → EReal
  scale : Fin 1024 → EReal
  wout : Fin 1024 → Fin 1024 → EReal

/-- The norm's two constants: the row length and the small number under the root. -/
def rowLen : EReal := Ideal.ofBits .f32 0x44800000#32
def eps : EReal := Ideal.ofBits .f32 0x358637BD#32

theorem rowLen_eq : rowLen = ((1024 : ℝ) : EReal) := by
  unfold rowLen
  simp [Ideal.ofBits, Ideal.ieee, -EReal.coe_mul]; norm_num

theorem eps_eq : ∃ e : ℝ, 0 < e ∧ eps = (e : EReal) := by
  unfold eps
  refine ⟨_, ?_, by simp only [Ideal.ofBits, Ideal.ieee]; simp [-EReal.coe_mul]; rfl⟩
  positivity

theorem half_eq : Ideal.ofBits .f32 0xBF000000#32 = ((-(1/2) : ℝ) : EReal) := by
  simp [Ideal.ofBits, Ideal.ieee, -EReal.coe_mul]; norm_num

namespace Arrays

variable (a : Arrays)

/-- The gradient of the gated mixture: the cotangent times the output projection's transpose. -/
def dz (s : Fin 8192) (j : Fin 1024) : EReal := ∑ k, a.dx1 s k * a.wout j k
/-- The grouped product of the pooled differences. -/
def zpre (s : Fin 8192) (j : Fin 1024) : EReal := ∑ c, a.p s (lane (grp j) c) * a.wgrp (grp j) c (sub j)
/-- The scaled mixture. -/
def z (s : Fin 8192) (j : Fin 1024) : EReal := a.zpre s j * a.scale j
/-- The scale's gradient. -/
def dscale (j : Fin 1024) : EReal := ∑ s, a.dz s j * a.zpre s j
def dzpre (s : Fin 8192) (j : Fin 1024) : EReal := a.dz s j * a.scale j
/-- The gradient of the pooled differences. -/
def dp (s : Fin 8192) (j : Fin 1024) : EReal := ∑ e, a.dzpre s (lane (grp j) e) * a.wgrp (grp j) (sub j) e
/-- … divided by the number of tokens its mean is of; zero behind the last token. -/
def dpc (s : ℕ) (j : Fin 1024) : EReal :=
  if h : s < 8192 then Ideal.div (a.dp ⟨s, h⟩ j) ((min (s + 1) (width (grp j)) : ℕ) : ℝ) else 0
/-- The gradient of the mixer's input: a token's value entered the next `width` means, and was subtracted once. -/
def du (s : Fin 8192) (j : Fin 1024) : EReal := (∑ k ∈ Finset.range (width (grp j)), a.dpc (s.val + k) j) - a.dp s j
def dh (s : Fin 8192) (d : Fin 1024) : EReal := ∑ j, a.du s j * a.win d j
/-- The norm's row scale, its output, the gain's gradient and the input's gradient. -/
def r (s : Fin 8192) : EReal := rms rowLen eps (a.x0 s)
def h (s : Fin 8192) (j : Fin 1024) : EReal := a.x0 s j * a.r s * a.g0 j
def dg (j : Fin 1024) : EReal := ∑ s, a.dh s j * (a.x0 s j * a.r s)
def dx (s : Fin 8192) (j : Fin 1024) : EReal :=
  a.dx1 s j + a.r s * (a.dh s j * a.g0 j
    - (a.x0 s j * a.r s) * Ideal.div (∑ k, a.dh s k * a.g0 k * (a.x0 s k * a.r s)) rowLen)

/-- Every entry of the arguments is a real number. -/
structure Real : Prop where
  dx1 : ∀ s j, IsR (a.dx1 s j)
  x0 : ∀ s j, IsR (a.x0 s j)
  g0 : ∀ j, IsR (a.g0 j)
  win : ∀ i j, IsR (a.win i j)
  wgrp : ∀ g c e, IsR (a.wgrp g c e)
  scale : ∀ j, IsR (a.scale j)
  wout : ∀ i j, IsR (a.wout i j)

variable {a}

theorem Real.dp (ha : a.Real) (s : Fin 8192) (j : Fin 1024) : IsR (a.dp s j) :=
  IsR.sum fun e _ => ((IsR.sum fun k _ => (ha.dx1 s k).mul (ha.wout _ k)).mul (ha.scale _)).mul (ha.wgrp _ _ e)

theorem Real.dpc (ha : a.Real) (s : ℕ) (j : Fin 1024) : IsR (a.dpc s j) := by
  unfold Arrays.dpc
  split
  · refine (ha.dp _ j).div ?_
    have := width_pos (grp j)
    exact Nat.cast_ne_zero.2 (by omega)
  · exact isR_zero

theorem Real.du (ha : a.Real) (s : Fin 8192) (j : Fin 1024) : IsR (a.du s j) :=
  (IsR.sum fun _ _ => ha.dpc _ j).sub (ha.dp s j)

theorem Real.dh (ha : a.Real) (s : Fin 8192) (j : Fin 1024) : IsR (a.dh s j) :=
  IsR.sum fun k _ => (ha.du s k).mul (ha.win j k)

end Arrays

end Cert.Proof

end
-- ==== Proof.Tiles.lean ====
/- The 16 tiles of 512 tokens the mixer's gradient kernel walks, last tile first: what a tile's blocks hold, the four
   groups' stores read back as one, and the window sums that doubling rotations build. -/
module

public import proofs.«01_k».proof.Proof.Gen.KernelIdeal.Value
public import proofs.«01_k».proof.Proof.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof

open Idealize.ShloMosaic Cert.KernelIdeal Cert.KernelIdeal.Gen Idealize.ShloMosaic.Pointwise

/-- Token `r` of tile `n`. -/
def tileRow (n : Fin 16) (r : Fin 512) : Fin 8192 := ⟨n * 512 + r, by omega⟩

/-- The blocks a grid point reads hold the rows of tile `n`, and the whole of the weights. -/
structure Tile (a : Arrays) (n : Fin 16) (B0 B1 : Vec Ideal S512x1024 .f32) (B2 : Vec Ideal S1x1024 .f32) (B3 : Vec Ideal S512x1024 .bf16)
    (B4 : Vec Ideal S1024x1024 .bf16) (B5 : Vec Ideal S4x256x256 .bf16) (B6 : Vec Ideal S1x1024 .f32)
    (B7 : Vec Ideal S1024x1024 .bf16) : Prop where
  dx1 : ∀ r j, B0 (ix2 r j) = a.dx1 (tileRow n r) j
  x0 : ∀ r j, B1 (ix2 r j) = a.x0 (tileRow n r) j
  g0 : ∀ j, B2 (ix2 0 j) = a.g0 j
  p : ∀ r j, B3 (ix2 r j) = a.p (tileRow n r) j
  win : ∀ i j, B4 (ix2 i j) = a.win i j
  wgrp : ∀ g i j, B5 (ix3 g i j) = a.wgrp g i j
  scale : ∀ j, B6 (ix2 0 j) = a.scale j
  wout : ∀ i j, B7 (ix2 i j) = a.wout i j

/-- The tile grid point `t` works on: the tiles are taken last first. -/
def tileOf (t : Fin cfg0.N) : Fin 16 := ⟨15 - t.val, by omega⟩

/-- Every token is a token of a tile, so a sum over the tokens is a sum over the tiles. -/
theorem sum_tiles (f : Fin 8192 → EReal) : ∑ s, f s = ∑ n, ∑ r, f (tileRow n r) := by
  rw [← Fintype.sum_prod_type' (f := fun n r => f (tileRow n r))]
  refine (Fintype.sum_equiv (finProdFinEquiv (m := 16) (n := 512)) _ _ fun x => congrArg f (Fin.ext ?_)).symm
  simp only [tileRow, finProdFinEquiv_apply_val]
  omega

/-! ## The groups' lanes -/

theorem lane0 (e : Fin 256) (h : e.val < 1024) : (⟨e.val, h⟩ : Fin 1024) = lane 0 e := Fin.ext (by simp [lane])
theorem lane1 (e : Fin 256) (h : 256 + e.val < 1024) : (⟨256 + e.val, h⟩ : Fin 1024) = lane 1 e := Fin.ext (by simp [lane])
theorem lane2 (e : Fin 256) (h : 512 + e.val < 1024) : (⟨512 + e.val, h⟩ : Fin 1024) = lane 2 e := Fin.ext (by simp [lane])
theorem lane3 (e : Fin 256) (h : 768 + e.val < 1024) : (⟨768 + e.val, h⟩ : Fin 1024) = lane 3 e := Fin.ext (by simp [lane])

/-- One group's store, block by block of the whole. -/
theorem group_piece {Val : EltTy → Type} {ty : EltTy} {R : ℕ} {G : Fin R → Fin 1024 → Val ty} (g : Fin 4) {o : ℕ} (ho : g.val * 256 = o)
    (i : ∀ a, ![0, o] a + ![R, 256] a ≤ (⟨2, ![R, 1024]⟩ : Shape).size a) {P : (⟨2, ![R, 256]⟩ : Shape).Idx → Val ty}
    (h : ∀ r e, P (ix2 r e) = G r (lane g e)) (x : (⟨2, ![R, 256]⟩ : Shape).Idx) :
    P x = (fun y : (⟨2, ![R, 1024]⟩ : Shape).Idx => G (y 0) (y 1)) ((Rect.unit (s := ⟨2, ![R, 1024]⟩) ![0, o] ![R, 256] i).emb x) := by
  have e := fun b => Rect.idx_unit_val (s := ⟨2, ![R, 1024]⟩) ![0, o] ![R, 256] i x b
  refine (congrArg P (eq_ix2 x)).trans ((h (x 0) (x 1)).trans (congrArg₂ G (Fin.ext ?_) (Fin.ext ?_)))
  · exact (Nat.zero_add _).symm.trans (e 0).symm
  · subst ho; exact (e 1).symm

/-- Four stores side by side, one per group, read back at an entry. -/
theorem canon_groups {Val : EltTy → Type} [∀ e, Nonempty (Val e)] {ty : EltTy} {R : ℕ} (G : Fin R → Fin 1024 → Val ty)
    (P0 P1 P2 P3 : (⟨2, ![R, 256]⟩ : Shape).Idx → Val ty) (i0 i1 i2 i3) (L : List (View.Piece Val (⟨2, ![R, 1024]⟩ : Shape) ty))
    (h0 : ∀ r e, P0 (ix2 r e) = G r (lane 0 e)) (h1 : ∀ r e, P1 (ix2 r e) = G r (lane 1 e))
    (h2 : ∀ r e, P2 (ix2 r e) = G r (lane 2 e)) (h3 : ∀ r e, P3 (ix2 r e) = G r (lane 3 e)) (y : (⟨2, ![R, 1024]⟩ : Shape).Idx) :
    View.canon (⟨Rect.unit ![0, 768] ![R, 256] i3, P3⟩ :: ⟨Rect.unit ![0, 512] ![R, 256] i2, P2⟩
      :: ⟨Rect.unit ![0, 256] ![R, 256] i1, P1⟩ :: ⟨Rect.unit ![0, 0] ![R, 256] i0, P0⟩ :: L) y = G (y 0) (y 1) := by
  refine View.canon_append_of_piecesOf (fun y => G (y 0) (y 1)) L
    [⟨Rect.unit ![0, 768] ![R, 256] i3, P3⟩, ⟨Rect.unit ![0, 512] ![R, 256] i2, P2⟩, ⟨Rect.unit ![0, 256] ![R, 256] i1, P1⟩,
      ⟨Rect.unit ![0, 0] ![R, 256] i0, P0⟩] ⟨?_, ?_, ?_, ?_, trivial⟩ y ?_
  · exact group_piece 3 (o := 768) rfl i3 h3
  · exact group_piece 2 (o := 512) rfl i2 h2
  · exact group_piece 1 (o := 256) rfl i1 h1
  · exact group_piece 0 (o := 0) rfl i0 h0
  · have hy : (y 1).val < 1024 := (y 1).isLt
    have hr : (y 0).val < R := (y 0).isLt
    simp only [List.mem_cons, List.not_mem_nil, or_false, exists_eq_or_imp, exists_eq_left, Rect.mem_set_unit, Fin.forall_fin_two]
    simp
    omega

/-! ## Token positions and counts -/

theorem base_word : ∀ t : Fin cfg0.N, Scalar.muli (Scalar.subi 15#32 (BitVec.ofNat 32 ((grid0.coords t 0).val))) 512#32
    = BitVec.ofNat 32 ((tileOf t).val * 512) :=
  (by decide +kernel : ∀ t : Fin grid0.N, Scalar.muli (Scalar.subi 15#32 (BitVec.ofNat 32 ((grid0.coords t 0).val))) 512#32
    = BitVec.ofNat 32 ((15 - t.val) * 512))

/-- The kernel's token count at row `r` of its tile. -/
theorem count_tile (t : Fin cfg0.N) (r : ℕ) (hr : r < 512) (g : Fin 4) (b : BitVec 32) (hb : b = BitVec.ofNat 32 (width g)) :
    (FloatOps.sitofp .f32 (IntOp.minsi (IntOp.addi (IntOp.addi (Scalar.muli (Scalar.subi 15#32
        (BitVec.ofNat 32 ((grid0.coords t 0).val))) 512#32) (BitVec.ofNat 32 r)) 1#32) b) : Ideal .f32)
      = (((min ((tileRow (tileOf t) ⟨r, hr⟩).val + 1) (width g) : ℕ) : ℝ) : EReal) := by
  rw [base_word]
  have e : IntOp.addi (BitVec.ofNat 32 ((tileOf t).val * 512)) (BitVec.ofNat 32 r)
      = BitVec.ofNat 32 (tileRow (tileOf t) ⟨r, hr⟩).val := (BitVec.ofNat_add _ _).symm
  rw [e, count_eq _ (tileRow (tileOf t) ⟨r, hr⟩).isLt b (width g) hb (by fin_cases g <;> decide)]

theorem dpc_tile (a : Arrays) (n : Fin 16) (r : ℕ) (hr : r < 512) (j : Fin 1024) : a.dpc (n.val * 512 + r) j
    = Ideal.div (a.dp (tileRow n ⟨r, hr⟩) j) (((min ((tileRow n ⟨r, hr⟩).val + 1) (width (grp j)) : ℕ) : ℝ) : EReal) :=
  dif_pos (tileRow n ⟨r, hr⟩).isLt

theorem dpc_past (a : Arrays) (s : ℕ) (hs : 8192 ≤ s) (j : Fin 1024) : a.dpc s j = 0 := dif_neg (by omega)

/-! ## Window sums by doubling -/

/-- Row `r` of `A` is the sum of the `s` values of `f` from `r` on, where these lie within the 528 rows. -/
def Wins (f : ℕ → Fin 256 → EReal) (s : ℕ) (A : FVec Ideal S528x256 .f32) : Prop :=
  ∀ (r : Fin 528) (e : Fin 256), r.val + s ≤ 528 → A (ix2 r e) = ∑ k ∈ Finset.range s, f (r.val + k) e

theorem Wins.one {f : ℕ → Fin 256 → EReal} {D : FVec Ideal S512x256 .f32} {H : Vec Ideal S16x256 .f32}
    (hD : ∀ r e, D (ix2 r e) = f r.val e) (hH : ∀ r e, H (ix2 r e) = f (512 + r.val) e) :
    Wins f 1 (concatenate S528x256 0 [⟨S512x256, D⟩, ⟨S16x256, H⟩] concatenates_S512x256_S16x256_S528x256_d0) := by
  intro r e _
  pointwise []
  rw [Finset.sum_range_one, Nat.add_zero]
  split
  · exact hD _ e
  · next h => exact (hH _ e).trans (congrArg (fun s => f s e) (by show 512 + (r.val - 512) = r.val; omega))

theorem Wins.double {f : ℕ → Fin 256 → EReal} {s : ℕ} {A B : FVec Ideal S528x256 .f32} (h : Wins f s A)
    (hB : ∀ (r : Fin 528) (e : Fin 256) (hr : r.val + s < 528), B (ix2 r e) = A (ix2 r e) + A (ix2 ⟨r.val + s, hr⟩ e)) (hs : 0 < s) :
    Wins f (s + s) B := by
  intro r e hr
  rw [hB r e (by omega), h r e (by omega), h ⟨r.val + s, by omega⟩ e (by show r.val + s + s ≤ 528; omega), Finset.sum_range_add]
  simp only [Nat.add_assoc]

/-! The four rotations, each a load from `1`, `2`, `4` and `8` rows on. -/

theorem rot1 (A : FVec Ideal S528x256 .f32) (r : Fin 528) (e : Fin 256) (hr : r.val + 1 < 528) :
    addf A (dynamicRotate 0 527#32 none A rotates_S528x256_d0) (ix2 r e) = A (ix2 r e) + A (ix2 ⟨r.val + 1, hr⟩ e) := by
  pointwise []
  exact congrArg (A (ix2 r e) + ·) (congrArg (fun k => A (ix2 k e)) (Fin.ext (by show (r.val + 528 - 527) % 528 = r.val + 1; omega)))

theorem rot2 (A : FVec Ideal S528x256 .f32) (r : Fin 528) (e : Fin 256) (hr : r.val + 2 < 528) :
    addf A (dynamicRotate 0 526#32 none A rotates_S528x256_d0) (ix2 r e) = A (ix2 r e) + A (ix2 ⟨r.val + 2, hr⟩ e) := by
  pointwise []
  exact congrArg (A (ix2 r e) + ·) (congrArg (fun k => A (ix2 k e)) (Fin.ext (by show (r.val + 528 - 526) % 528 = r.val + 2; omega)))

theorem rot4 (A : FVec Ideal S528x256 .f32) (r : Fin 528) (e : Fin 256) (hr : r.val + 4 < 528) :
    addf A (dynamicRotate 0 524#32 none A rotates_S528x256_d0) (ix2 r e) = A (ix2 r e) + A (ix2 ⟨r.val + 4, hr⟩ e) := by
  pointwise []
  exact congrArg (A (ix2 r e) + ·) (congrArg (fun k => A (ix2 k e)) (Fin.ext (by show (r.val + 528 - 524) % 528 = r.val + 4; omega)))

theorem rot8 (A : FVec Ideal S528x256 .f32) (r : Fin 528) (e : Fin 256) (hr : r.val + 8 < 528) :
    addf A (dynamicRotate 0 520#32 none A rotates_S528x256_d0) (ix2 r e) = A (ix2 r e) + A (ix2 ⟨r.val + 8, hr⟩ e) := by
  pointwise []
  exact congrArg (A (ix2 r e) + ·) (congrArg (fun k => A (ix2 k e)) (Fin.ext (by show (r.val + 528 - 520) % 528 = r.val + 8; omega)))

/-- What a group stores: the window sums of its first 512 rows less the gradient itself. -/
theorem wins_less {f : ℕ → Fin 256 → EReal} {w : ℕ} {A : FVec Ideal S528x256 .f32} (h : Wins f w A) (hw : w ≤ 16) (D : FVec Ideal S512x256 .f32)
    (r : Fin 512) (e : Fin 256) :
    truncf .bf16 (subf (extractStridedSlice S512x256 ![0, 0] A slices_S528x256_o0_0_S512x256) D) bitsLt_bf16_f32 (ix2 r e)
      = (∑ k ∈ Finset.range w, f (r.val + k) e) - D (ix2 r e) := by
  pointwise []
  rw [h ⟨r.val, by omega⟩ e (by show r.val + w ≤ 528; omega)]

end Cert.Proof

end
-- ==== Proof.Outs.lean ====
/- What each grid point leaves: each output tile, the carried rows and the two running sums, as entries of the
   specification. -/
module

public import proofs.«01_k».proof.Proof.Tiles

@[expose] public section

set_option maxRecDepth 16384
set_option maxHeartbeats 1000000

noncomputable section

namespace Cert.Proof

open Idealize.ShloMosaic Cert.KernelIdeal Cert.KernelIdeal.Gen Idealize.ShloMosaic.Pointwise

variable (m : (ℓ : Loc nD τ sig) → Buf (Elt Ideal) ℓ) (c : Dev nD)

/-- The blocks every grid point reads are the tiles of `a`. -/
def Reads (a : Arrays) : Prop := ∀ t, Tile a (tileOf t) (iblk m c 0 t) (iblk m c 1 t) (iblk m c 2 t) (iblk m c 3 t)
  (iblk m c 4 t) (iblk m c 5 t) (iblk m c 6 t) (iblk m c 7 t)

variable {m c} {a : Arrays} (T : Reads m c a) (t : Fin cfg0.N)

include T

theorem out_z (y) : (outsAt0 m c t.val t.isLt).2.1 y = a.z (tileRow (tileOf t) (y 0)) (y 1) := by
  by_cases h0 : t.val % 16 = 0
  on_goal 1 => rw [outsAt0_A m c t h0]
  on_goal 2 => rw [outsAt0_B m c t h0]
  all_goals
    frame_out
    refine canon_groups (Val := Elt Ideal) (ty := .bf16) (fun r j => a.z (tileRow (tileOf t) r) j) _ _ _ _ _ _ _ _ _
      ?_ ?_ ?_ ?_ y <;> intro r e <;>
      pointwise [k0_pay41, k0_pay38, k0_pay32, k0_pay30, k0_pay29, k0_pay31, k0_pay21, k0_pay18, k0_pay12, k0_pay9] <;>
      simp only [lane0, lane1, lane2, lane3, (T t).p, (T t).wgrp, (T t).scale, Arrays.z, Arrays.zpre, grp_lane, sub_lane]

theorem out_dzpre (y) : (outsAt0 m c t.val t.isLt).2.2.1 y = a.dzpre (tileRow (tileOf t) (y 0)) (y 1) := by
  by_cases h0 : t.val % 16 = 0
  on_goal 1 => rw [outsAt0_A m c t h0]
  on_goal 2 => rw [outsAt0_B m c t h0]
  all_goals
    frame_out
    refine canon_groups (Val := Elt Ideal) (ty := .bf16) (fun r j => a.dzpre (tileRow (tileOf t) r) j) _ _ _ _ _ _ _ _ _
      ?_ ?_ ?_ ?_ y <;> intro r e <;>
      pointwise [k0_pay42, k0_pay39, k0_pay33, k0_pay30, k0_pay22, k0_pay19, k0_pay13, k0_pay10, k0_pay7] <;>
      simp only [lane0, lane1, lane2, lane3, (T t).dx1, (T t).wout, (T t).scale, Arrays.dzpre, Arrays.dz]

/-! ## The four groups' gradients, and these over their counts -/

theorem dp0 (r e) : k0_pay14 (k0_pay10 (iblk m c 0 t) (iblk m c 7 t)) (View.ld (iblk m c 6 t) (Rect.unit ![0, 0] ![1, 256] inb_S1x1024_S1x256_0_0))
      (View.ld (iblk m c 5 t) (Rect.unit ![0, 0, 0] ![1, 256, 256] inb_S4x256x256_S1x256x256_0_0_0)) (ix2 r e)
    = a.dp (tileRow (tileOf t) r) (lane 0 e) := by
  pointwise [k0_pay14, k0_pay13, k0_pay10, k0_pay7]
  simp only [lane0, (T t).dx1, (T t).wout, (T t).scale, (T t).wgrp, Arrays.dp, Arrays.dzpre, Arrays.dz, grp_lane, sub_lane]

theorem dp1 (r e) : k0_pay23 (k0_pay19 (k0_pay7 (iblk m c 0 t) (iblk m c 7 t))) (View.ld (iblk m c 6 t) (Rect.unit ![0, 256] ![1, 256] inb_S1x1024_S1x256_0_256))
      (View.ld (iblk m c 5 t) (Rect.unit ![1, 0, 0] ![1, 256, 256] inb_S4x256x256_S1x256x256_1_0_0)) (ix2 r e)
    = a.dp (tileRow (tileOf t) r) (lane 1 e) := by
  pointwise [k0_pay23, k0_pay22, k0_pay19, k0_pay7]
  simp only [lane1, (T t).dx1, (T t).wout, (T t).scale, (T t).wgrp, Arrays.dp, Arrays.dzpre, Arrays.dz, grp_lane, sub_lane]

theorem dp2 (r e) : k0_pay34 (k0_pay33 (k0_pay7 (iblk m c 0 t) (iblk m c 7 t)) (View.ld (iblk m c 6 t) (Rect.unit ![0, 512] ![1, 256] inb_S1x1024_S1x256_0_512)))
      (View.ld (iblk m c 5 t) (Rect.unit ![2, 0, 0] ![1, 256, 256] inb_S4x256x256_S1x256x256_2_0_0)) (ix2 r e)
    = a.dp (tileRow (tileOf t) r) (lane 2 e) := by
  pointwise [k0_pay34, k0_pay33, k0_pay30, k0_pay7]
  simp only [lane2, (T t).dx1, (T t).wout, (T t).scale, (T t).wgrp, Arrays.dp, Arrays.dzpre, Arrays.dz, grp_lane, sub_lane]

theorem dp3 (r e) : k0_pay43 (k0_pay39 (k0_pay7 (iblk m c 0 t) (iblk m c 7 t))) (View.ld (iblk m c 6 t) (Rect.unit ![0, 768] ![1, 256] inb_S1x1024_S1x256_0_768))
      (View.ld (iblk m c 5 t) (Rect.unit ![3, 0, 0] ![1, 256, 256] inb_S4x256x256_S1x256x256_3_0_0)) (ix2 r e)
    = a.dp (tileRow (tileOf t) r) (lane 3 e) := by
  pointwise [k0_pay43, k0_pay42, k0_pay39, k0_pay7]
  simp only [lane3, (T t).dx1, (T t).wout, (T t).scale, (T t).wgrp, Arrays.dp, Arrays.dzpre, Arrays.dz, grp_lane, sub_lane]

theorem dpc0 (r e) : k0_pay15 (k0_pay8 (grid0.coords t)) (k0_pay10 (iblk m c 0 t) (iblk m c 7 t)) (View.ld (iblk m c 6 t) (Rect.unit ![0, 0] ![1, 256] inb_S1x1024_S1x256_0_0))
      (View.ld (iblk m c 5 t) (Rect.unit ![0, 0, 0] ![1, 256, 256] inb_S4x256x256_S1x256x256_0_0_0)) (ix2 r e)
    = a.dpc ((tileOf t).val * 512 + r.val) (lane 0 e) := by
  pointwise [k0_pay15, k0_pay8]
  rw [dp0 T, count_tile t r.val r.isLt 0 2#32 rfl, dpc_tile a _ r.val r.isLt, grp_lane]

theorem dpc1 (r e) : k0_pay24 (k0_pay8 (grid0.coords t)) (k0_pay19 (k0_pay7 (iblk m c 0 t) (iblk m c 7 t))) (View.ld (iblk m c 6 t) (Rect.unit ![0, 256] ![1, 256] inb_S1x1024_S1x256_0_256))
      (View.ld (iblk m c 5 t) (Rect.unit ![1, 0, 0] ![1, 256, 256] inb_S4x256x256_S1x256x256_1_0_0)) (ix2 r e)
    = a.dpc ((tileOf t).val * 512 + r.val) (lane 1 e) := by
  pointwise [k0_pay24, k0_pay8]
  rw [dp1 T, count_tile t r.val r.isLt 1 4#32 rfl, dpc_tile a _ r.val r.isLt, grp_lane]

theorem dpc2 (r e) : k0_pay35 (k0_pay8 (grid0.coords t)) (k0_pay33 (k0_pay7 (iblk m c 0 t) (iblk m c 7 t)) (View.ld (iblk m c 6 t) (Rect.unit ![0, 512] ![1, 256] inb_S1x1024_S1x256_0_512)))
      (View.ld (iblk m c 5 t) (Rect.unit ![2, 0, 0] ![1, 256, 256] inb_S4x256x256_S1x256x256_2_0_0)) (ix2 r e)
    = a.dpc ((tileOf t).val * 512 + r.val) (lane 2 e) := by
  pointwise [k0_pay35, k0_pay8]
  rw [dp2 T, count_tile t r.val r.isLt 2 8#32 rfl, dpc_tile a _ r.val r.isLt, grp_lane]

theorem dpc3 (r e) : k0_pay44 (k0_pay8 (grid0.coords t)) (k0_pay39 (k0_pay7 (iblk m c 0 t) (iblk m c 7 t))) (View.ld (iblk m c 6 t) (Rect.unit ![0, 768] ![1, 256] inb_S1x1024_S1x256_0_768))
      (View.ld (iblk m c 5 t) (Rect.unit ![3, 0, 0] ![1, 256, 256] inb_S4x256x256_S1x256x256_3_0_0)) (ix2 r e)
    = a.dpc ((tileOf t).val * 512 + r.val) (lane 3 e) := by
  pointwise [k0_pay44, k0_pay8]
  rw [dp3 T, count_tile t r.val r.isLt 3 16#32 rfl, dpc_tile a _ r.val r.isLt, grp_lane]

/-- The rows a point carries to the next: the first 16 of its tile. -/
theorem out_head (y) : (outsAt0 m c t.val t.isLt).2.2.2.2.2.2.2 y = a.dpc ((tileOf t).val * 512 + (y 0).val) (y 1) := by
  by_cases h0 : t.val % 16 = 0
  on_goal 1 => rw [outsAt0_A m c t h0]
  on_goal 2 => rw [outsAt0_B m c t h0]
  all_goals
    frame_out
    refine canon_groups (Val := Elt Ideal) (ty := .f32) (fun k j => a.dpc ((tileOf t).val * 512 + k.val) j) _ _ _ _ _ _ _ _ _
      ?_ ?_ ?_ ?_ y <;> intro r e <;> pointwise [k0_pay16, k0_pay26, k0_pay27, k0_pay36, k0_pay46, k0_pay47]
    · exact dpc0 T t _ e
    · exact dpc1 T t _ e
    · exact dpc2 T t _ e
    · exact dpc3 T t _ e

/-- A group's stored gradient, from its carried rows. -/
theorem du_of {g : Fin 4} {w : ℕ} (hw : width g = w) (hw16 : w ≤ 16) {A : FVec Ideal S528x256 .f32} {D : FVec Ideal S512x256 .f32}
    (hA : Wins (fun r e => a.dpc ((tileOf t).val * 512 + r) (lane g e)) w A)
    (hD : ∀ r e, D (ix2 r e) = a.dp (tileRow (tileOf t) r) (lane g e)) (r : Fin 512) (e : Fin 256) :
    truncf .bf16 (subf (extractStridedSlice S512x256 ![0, 0] A slices_S528x256_o0_0_S512x256) D) bitsLt_bf16_f32 (ix2 r e)
      = a.du (tileRow (tileOf t) r) (lane g e) := by
  rw [wins_less hA hw16, hD, Arrays.du, grp_lane, hw]
  exact congrArg (· - _) (Finset.sum_congr rfl fun k _ => congrArg (fun s => a.dpc s (lane g e)) (Nat.add_assoc _ _ _).symm)

end Cert.Proof

end
-- ==== Proof.SuffixSum.lean ====
/- A host window sum whose window is as long as the first axis and padded behind: the sum of the rows from the
   index on. -/
module

public import proofs.«01_k».proof.Proof.Gen.ReferenceIdeal.Read
public import proofs.«01_k».proof.Proof.Reals
public import Idealize.ShloMosaic.Lib.Pointwise

@[expose] public section

set_option maxRecDepth 16384

noncomputable section

namespace Cert.Proof

open Idealize.ShloMosaic Cert.ReferenceIdeal Cert.ReferenceIdeal.Gen Idealize.ShloMosaic.Pointwise

/-- A left fold of additions is the start plus the sum. -/
theorem foldl_add_sum {n : ℕ} (g : Fin n → EReal) (v : EReal) :
    (List.finRange n).foldl (fun r k => r + g k) v = v + ∑ k, g k := by
  rw [← List.foldl_map (f := g) (g := fun r y => r + y), Fin.sum_univ_def]
  generalize (List.finRange n).map g = l
  induction l generalizing v with
  | nil => simp
  | cons a l ih => rw [List.foldl_cons, ih, List.sum_cons, add_assoc]

/-- The window's shape: all rows, one group, one lane. -/
abbrev Win : Shape := ⟨3, ![8192, 1, 1]⟩

/-- A window position is its row. -/
def winRow : Win.Idx ≃ Fin 8192 where
  toFun i := ⟨(i 0).val, (i 0).isLt⟩
  invFun k := fun a => match a with
    | ⟨0, _⟩ => ⟨k.val, k.isLt⟩
    | ⟨1, _⟩ => ⟨0, Nat.one_pos⟩
    | ⟨2, _⟩ => ⟨0, Nat.one_pos⟩
  left_inv i := by
    funext a
    match a with
    | ⟨0, _⟩ => rfl
    | ⟨1, _⟩ => exact Fin.ext (Nat.lt_one_iff.1 (i 1).isLt).symm
    | ⟨2, _⟩ => exact Fin.ext (Nat.lt_one_iff.1 (i 2).isLt).symm
  right_inv _ := rfl

/-- A reversed running sum along the rows, read at an index: the sum of the rows from the index's own on. -/
theorem reverse_cumsum_apply (x : FVec Ideal S8192x4x256 .f32) (z : FVec Ideal S_ .f32) (hz : z (Shape.Idx.first h_S_) = 0)
    (i : S8192x4x256.Idx) :
    Host.reduceWindowAdd ![8192, 1, 1] ![1, 1, 1] ![0, 0, 0] ![8191, 0, 0] x z
        reduceWindows_S8192x4x256_S8192x4x256_w8192s1p0_8191_w1s1p0_0_w1s1p0_0 h_S_ i
      = ∑ s ∈ Finset.Ico (i 0).val 8192, if h : s < 8192 then x (ix3 ⟨s, h⟩ (i 1) (i 2)) else 0 := by
  unfold Host.reduceWindowAdd
  rw [Ideal.hostReduceWindowAdd_def, hz]
  unfold Ideal.hostReduceWindowAdd Host.reduceWindow
  dsimp only
  rw [foldl_add_sum, zero_add]
  rw [← Equiv.sum_comp (Win.rowMajor)]
  simp only [Equiv.symm_apply_apply]
  rw [← Equiv.sum_comp winRow.symm]
  let f : ℕ → EReal := fun n => if h : (i 0).val + n < 8192 then x (ix3 ⟨(i 0).val + n, h⟩ (i 1) (i 2)) else 0
  refine Eq.trans (b := ∑ k : Fin 8192, f k.val) (Finset.sum_congr rfl fun k _ => ?_) ?_
  rotate_left
  · rw [Fin.sum_univ_eq_sum_range]
    have hi : (i 0).val < 8192 := (i 0).isLt
    rw [Finset.sum_Ico_eq_sum_range]
    refine (Finset.sum_subset (Finset.range_mono (Nat.sub_le 8192 _)) fun n _ hn => ?_).symm
    refine dif_neg fun h => hn (Finset.mem_range.2 ?_)
    omega
  · show _ = if h : (i 0).val + k.val < 8192 then x (ix3 ⟨(i 0).val + k.val, h⟩ (i 1) (i 2)) else 0
    by_cases h : (i 0).val + k.val < 8192
    · rw [dif_pos h]
      refine (dif_pos ?_).trans (congrArg x ?_)
      · intro a
        match a with
        | ⟨0, _⟩ => exact ⟨Nat.zero_le _, by show (i 0).val * 1 + k.val - 0 < 8192; omega⟩
        | ⟨1, _⟩ => exact ⟨Nat.zero_le _, by have h1 : (i 1).val < 4 := (i 1).isLt; show (i 1).val * 1 + 0 - 0 < 4; omega⟩
        | ⟨2, _⟩ => exact ⟨Nat.zero_le _, by have h2 : (i 2).val < 256 := (i 2).isLt; show (i 2).val * 1 + 0 - 0 < 256; omega⟩
      · funext a
        match a with
        | ⟨0, _⟩ => exact Fin.ext (by show (i 0).val * 1 + k.val - 0 = (i 0).val + k.val; omega)
        | ⟨1, _⟩ => exact Fin.ext (by show (i 1).val * 1 + 0 - 0 = (i 1).val; omega)
        | ⟨2, _⟩ => exact Fin.ext (by show (i 2).val * 1 + 0 - 0 = (i 2).val; omega)
    · rw [dif_neg h]
      refine dif_neg fun hh => h ?_
      have := (hh ⟨0, by decide⟩).2
      change (i 0).val * 1 + k.val - 0 < 8192 at this
      omega

end Cert.Proof

end
-- ==== Proof.Ref.lean ====
/- The reference's results, entry by entry: each is the specification's function of the reference's arguments. -/
module

public import proofs.«01_k».proof.Proof.Gen.ReferenceIdeal.Read
public import proofs.«01_k».proof.Proof.Spec
public import proofs.«01_k».proof.Proof.SuffixSum
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Read Idealize.ShloMosaic.Pointwise

variable (x0 x1 : (⟨S8192x1024, .f32⟩ : BufTy).Contents (Elt Ideal)) (x2 : (⟨S1x1024, .f32⟩ : BufTy).Contents (Elt Ideal))
  (x3 : (⟨S1024x1024, .f32⟩ : BufTy).Contents (Elt Ideal)) (x4 : (⟨S4x256x256, .f32⟩ : BufTy).Contents (Elt Ideal))
  (x5 : (⟨S1x1024, .f32⟩ : BufTy).Contents (Elt Ideal)) (x6 : (⟨S1024x1024, .f32⟩ : BufTy).Contents (Elt Ideal))

/-- The reference's arguments as the specification's arrays; the pooled differences are the reference's own lines. -/
def arr : Arrays where
  dx1 s j := x0 (ix2 s j)
  x0 s j := x1 (ix2 s j)
  g0 j := x2 (ix2 0 j)
  p s j := val_main_v95 (F := Ideal) x1 x2 x3 (ix3 s (grp j) (sub j))
  win i j := x3 (ix2 i j)
  wgrp g c e := x4 (ix3 g c e)
  scale j := x5 (ix2 0 j)
  wout i j := x6 (ix2 i j)

theorem zpre (s : Fin 8192) (j : Fin 1024) : val_main_v98 (F := Ideal) x1 x2 x3 x4 (ix2 s j) = (arr x0 x1 x2 x3 x4 x5 x6).zpre s j := by
  pointwise [val_main_v98, val_main_v97, val_main_v96]
  refine Finset.sum_congr rfl fun c _ => ?_
  rw [mul_comm]
  simp only [arr, grp_lane, sub_lane]
  rfl

theorem dz (s : Fin 8192) (j : Fin 1024) : val_main_v102 (F := Ideal) x0 x6 (ix2 s j) = (arr x0 x1 x2 x3 x4 x5 x6).dz s j := by
  pointwise [val_main_v102]
  rfl

theorem z (s : Fin 8192) (j : Fin 1024) : val_main_v198 (F := Ideal) x1 x2 x3 x4 x5 (ix2 s j) = (arr x0 x1 x2 x3 x4 x5 x6).z s j := by
  pointwise [val_main_v198, val_main_v100, val_main_v99]
  rw [zpre x0 x1 x2 x3 x4 x5 x6]
  rfl

theorem dscale (j : Fin 1024) : val_main_v105 (F := Ideal) x0 x1 x2 x3 x4 x6 (ix2 0 j) = (arr x0 x1 x2 x3 x4 x5 x6).dscale j := by
  pointwise [val_main_v105, val_main_v104, val_main_v103, val_main_cst_18]
  refine Finset.sum_congr rfl fun s _ => ?_
  rw [mul_comm, zpre x0 x1 x2 x3 x4 x5 x6, dz x0 x1 x2 x3 x4 x5 x6]

theorem dzpre (s : Fin 8192) (j : Fin 1024) : val_main_v107 (F := Ideal) x0 x5 x6 (ix2 s j) = (arr x0 x1 x2 x3 x4 x5 x6).dzpre s j := by
  pointwise [val_main_v107, val_main_v106]
  rw [dz x0 x1 x2 x3 x4 x5 x6]
  rfl

theorem dp (s : Fin 8192) (g : Fin 4) (e : Fin 256) :
    val_main_v111 (F := Ideal) x0 x4 x5 x6 (ix3 s g e) = (arr x0 x1 x2 x3 x4 x5 x6).dp s (lane g e) := by
  pointwise [val_main_v111, val_main_v110, val_main_v109, val_main_v108]
  refine Finset.sum_congr rfl fun k _ => ?_
  rw [grp_lane, sub_lane, ← dzpre]
  rfl

/-- The mean's count in each group. -/
theorem count (s : ℕ) (hs : s < 8192) (g : Fin 4) (b : BitVec 32) (hb : b = BitVec.ofNat 32 (width g)) :
    (FloatOps.sitofp .f32 (IntOp.minsi (IntOp.addi (BitVec.ofNat 32 s) 1#32) b) : Ideal .f32)
      = (((min (s + 1) (width g) : ℕ) : ℝ) : EReal) :=
  count_eq s hs b (width g) hb (by fin_cases g <;> decide)

/-- The divided gradient, at a token or behind the last. -/
theorem dpc_of_lt {a : Arrays} {s : ℕ} (h : s < 8192) (j : Fin 1024) :
    a.dpc s j = Ideal.div (a.dp ⟨s, h⟩ j) ((min (s + 1) (width (grp j)) : ℕ) : ℝ) := dif_pos h

theorem dpc_of_ge {a : Arrays} {s : ℕ} (h : ¬ s < 8192) (j : Fin 1024) : a.dpc s j = 0 := dif_neg h

/-! Each group's gradient, divided by its counts. -/

theorem dpc0 (s : Fin 8192) (e : Fin 256) :
    val_main_v165 (F := Ideal) x0 x4 x5 x6 (ix2 s e) = (arr x0 x1 x2 x3 x4 x5 x6).dpc s (lane 0 e) := by
  pointwise [val_main_v165, val_main_v113, val_main_v112, val_main_v164, val_main_v30, val_main_v29, val_main_v28, val_main_v27, val_main_v26, val_main_v25, val_main_v18, val_main_c, val_main_c_5]
  rw [dpc_of_lt s.isLt, grp_lane, dp x0 x1 x2 x3 x4 x5 x6, count s s.isLt 0 2#32 rfl]

theorem dpc1 (s : Fin 8192) (e : Fin 256) :
    val_main_v151 (F := Ideal) x0 x4 x5 x6 (ix2 s e) = (arr x0 x1 x2 x3 x4 x5 x6).dpc s (lane 1 e) := by
  pointwise [val_main_v151, val_main_v115, val_main_v114, val_main_v150, val_main_v48, val_main_v47, val_main_v46, val_main_v45, val_main_v44, val_main_v43, val_main_v18, val_main_c_8, val_main_c_9]
  rw [dpc_of_lt s.isLt, grp_lane, dp x0 x1 x2 x3 x4 x5 x6, count s s.isLt 1 4#32 rfl]

theorem dpc2 (s : Fin 8192) (e : Fin 256) :
    val_main_v137 (F := Ideal) x0 x4 x5 x6 (ix2 s e) = (arr x0 x1 x2 x3 x4 x5 x6).dpc s (lane 2 e) := by
  pointwise [val_main_v137, val_main_v117, val_main_v116, val_main_v136, val_main_v66, val_main_v65, val_main_v64, val_main_v63, val_main_v62, val_main_v61, val_main_v18, val_main_c_12, val_main_c_13]
  rw [dpc_of_lt s.isLt, grp_lane, dp x0 x1 x2 x3 x4 x5 x6, count s s.isLt 2 8#32 rfl]

theorem dpc3 (s : Fin 8192) (e : Fin 256) :
    val_main_v124 (F := Ideal) x0 x4 x5 x6 (ix2 s e) = (arr x0 x1 x2 x3 x4 x5 x6).dpc s (lane 3 e) := by
  pointwise [val_main_v124, val_main_v119, val_main_v118, val_main_v123, val_main_v84, val_main_v83, val_main_v82, val_main_v81, val_main_v80, val_main_v79, val_main_v18, val_main_c_16, val_main_c_17]
  rw [dpc_of_lt s.isLt, grp_lane, dp x0 x1 x2 x3 x4 x5 x6, count s s.isLt 3 16#32 rfl]

/-- The difference the delayed subtraction leaves: a token's value less the value a window on. -/
theorem lagged {a : Arrays} {D : FVec Ideal S8192x256 .f32} {j : Fin 1024} {e : Fin 256} (w : ℕ)
    (hD : ∀ s : Fin 8192, D (ix2 s e) = a.dpc s j) (s : Fin 8192) :
    (D (ix2 s e) + if h : w + s.val < 8192 then -D (ix2 ⟨w + s.val, h⟩ e) else (0 : EReal)) = a.dpc s j + -a.dpc (s + w) j := by
  rw [hD, Nat.add_comm s.val w]
  split
  · rw [hD]
  · next h => rw [dpc_of_ge h, neg_zero]

theorem lag (s : Fin 8192) (g : Fin 4) (e : Fin 256) :
    val_main_v173 (F := Ideal) x0 x4 x5 x6 (ix3 s g e)
      = (arr x0 x1 x2 x3 x4 x5 x6).dpc s (lane g e) + -(arr x0 x1 x2 x3 x4 x5 x6).dpc (s + width g) (lane g e) := by
  pointwise [val_main_v173, val_main_v172, val_main_v171, val_main_v170, val_main_v169, val_main_v167, val_main_v166,
    val_main_v159, val_main_v158, val_main_v157, val_main_v156, val_main_v155, val_main_v153, val_main_v152, val_main_v145,
    val_main_v144, val_main_v143, val_main_v142, val_main_v141, val_main_v139, val_main_v138, val_main_v131, val_main_v130,
    val_main_v129, val_main_v128, val_main_v126, val_main_v125, val_main_cst_20, val_main_cst_21, val_main_cst_23,
    val_main_cst_24, val_main_cst_26, val_main_cst_27, val_main_cst_29, val_main_cst_30]
  match g with
  | 0 => simpa [width] using lagged 2 (fun s => dpc0 x0 x1 x2 x3 x4 x5 x6 s e) s
  | 1 => simpa [width] using lagged 4 (fun s => dpc1 x0 x1 x2 x3 x4 x5 x6 s e) s
  | 2 => simpa [width] using lagged 8 (fun s => dpc2 x0 x1 x2 x3 x4 x5 x6 s e) s
  | 3 => simpa [width] using lagged 16 (fun s => dpc3 x0 x1 x2 x3 x4 x5 x6 s e) s

theorem minus (s : Fin 8192) (g : Fin 4) (e : Fin 256) :
    val_main_v163 (F := Ideal) x0 x4 x5 x6 (ix3 s g e) = -(arr x0 x1 x2 x3 x4 x5 x6).dp s (lane g e) := by
  pointwise [val_main_v163, val_main_v162, val_main_v161, val_main_v160, val_main_v149, val_main_v148, val_main_v147,
    val_main_v146, val_main_v135, val_main_v134, val_main_v133, val_main_v132, val_main_v122, val_main_v121, val_main_v120,
    val_main_v113, val_main_v112, val_main_v115, val_main_v114, val_main_v117, val_main_v116, val_main_v119, val_main_v118,
    val_main_cst_19, val_main_cst_22, val_main_cst_25, val_main_cst_28]
  rw [← dp]
  match g with
  | 0 => simp
  | 1 => simp
  | 2 => simp
  | 3 => simp

/-- The gradient of the mixer's input: the reversed running sum of the lagged differences is the window sum. -/
theorem du (ha : (arr x0 x1 x2 x3 x4 x5 x6).Real) (s : Fin 8192) (j : Fin 1024) :
    val_main_v176 (F := Ideal) x0 x4 x5 x6 (ix2 s j) = (arr x0 x1 x2 x3 x4 x5 x6).du s j := by
  refine lane_cases (P := fun j => val_main_v176 (F := Ideal) x0 x4 x5 x6 (ix2 s j) = _) (fun g e => ?_) j
  have h : val_main_v176 (F := Ideal) x0 x4 x5 x6 (ix2 s (lane g e)) = val_main_v175 (F := Ideal) x0 x4 x5 x6 (ix3 s g e) := by
    pointwise [val_main_v176]
    exact congrArg _ (congrArg₂ (ix3 s) (grp_lane g e) (sub_lane g e))
  rw [h]
  pointwise [val_main_v175]
  rw [minus x0 x1 x2 x3 x4 x5 x6]
  have h2 : val_main_v174 (F := Ideal) x0 x4 x5 x6 (ix3 s g e)
      = ∑ k ∈ Finset.range (width g), (arr x0 x1 x2 x3 x4 x5 x6).dpc (s + k) (lane g e) := by
    unfold val_main_v174
    rw [reverse_cumsum_apply _ _ (by pointwise [val_main_call1_call0_v0, val_main_call1_call0_cst]),
      ← window_of_suffix (fun t => ha.dpc t (lane g e)) (T := 8192) (fun t ht => dpc_of_ge (by omega) _) s.val (width g) s.isLt.le]
    refine Finset.sum_congr rfl fun t ht => ?_
    have ht' : t < 8192 := (Finset.mem_Ico.1 ht).2
    rw [dif_pos ht']
    exact lag x0 x1 x2 x3 x4 x5 x6 ⟨t, ht'⟩ g e
  rw [h2, Arrays.du, grp_lane, sub_eq_add_neg, add_comm]

theorem dh (ha : (arr x0 x1 x2 x3 x4 x5 x6).Real) (s : Fin 8192) (j : Fin 1024) :
    val_main_v177 (F := Ideal) x0 x3 x4 x5 x6 (ix2 s j) = (arr x0 x1 x2 x3 x4 x5 x6).dh s j := by
  pointwise [val_main_v177]
  refine Finset.sum_congr rfl fun k _ => ?_
  rw [du x0 x1 x2 x3 x4 x5 x6 ha]
  rfl

/-! The norm. -/

theorem meanSq_eq (s : Fin 8192) (k : Fin 1) :
    val_main_v6 (F := Ideal) x1 (ix2 s k) = meanSq rowLen eps ((arr x0 x1 x2 x3 x4 x5 x6).x0 s) := by
  pointwise [val_main_v6, val_main_v5, val_main_v4, val_main_v3, val_main_v2, val_main_v1, val_main_v0, val_main_cst,
    val_main_cst_0, val_main_cst_1]
  rfl

theorem r (s : Fin 8192) (k : Fin 1) : val_main_v7 (F := Ideal) x1 (ix2 s k) = (arr x0 x1 x2 x3 x4 x5 x6).r s := by
  pointwise [val_main_v7]
  rw [meanSq_eq x0 x1 x2 x3 x4 x5 x6]
  rfl

theorem h (s : Fin 8192) (j : Fin 1024) : val_main_v201 (F := Ideal) x1 x2 (ix2 s j) = (arr x0 x1 x2 x3 x4 x5 x6).h s j := by
  pointwise [val_main_v201, val_main_v14, val_main_v13, val_main_v12, val_main_v11]
  rw [r x0 x1 x2 x3 x4 x5 x6]
  rfl

theorem dg (ha : (arr x0 x1 x2 x3 x4 x5 x6).Real) (j : Fin 1024) :
    val_main_v180 (F := Ideal) x0 x1 x3 x4 x5 x6 (ix2 0 j) = (arr x0 x1 x2 x3 x4 x5 x6).dg j := by
  pointwise [val_main_v180, val_main_v179, val_main_v178, val_main_v12, val_main_v11, val_main_cst_31]
  refine Finset.sum_congr rfl fun s _ => ?_
  rw [r x0 x1 x2 x3 x4 x5 x6, dh x0 x1 x2 x3 x4 x5 x6 ha, mul_comm]
  rfl

theorem dx (ha : (arr x0 x1 x2 x3 x4 x5 x6).Real) (s : Fin 8192) (j : Fin 1024) :
    val_main_v197 (F := Ideal) x0 x1 x2 x3 x4 x5 x6 (ix2 s j) = (arr x0 x1 x2 x3 x4 x5 x6).dx s j := by
  pointwise [val_main_v197, val_main_v196, val_main_v195, val_main_v194, val_main_v193, val_main_v192, val_main_v191,
    val_main_v190, val_main_v189, val_main_v188, val_main_v187, val_main_v186, val_main_v185, val_main_v184, val_main_v183,
    val_main_v182, val_main_v181, val_main_v10, val_main_v9, val_main_v8, val_main_cst_2, val_main_cst_32, val_main_cst_33,
    val_main_cst_34]
  simp only [r x0 x1 x2 x3 x4 x5 x6, dh x0 x1 x2 x3 x4 x5 x6 ha, meanSq_eq x0 x1 x2 x3 x4 x5 x6]
  simp only [Finset.univ_unique, Finset.sum_singleton]
  obtain ⟨e, he, hee⟩ := eps_eq
  have key := rms_bwd (x := (arr x0 x1 x2 x3 x4 x5 x6).x0 s)
    (d := fun k => (arr x0 x1 x2 x3 x4 x5 x6).dh s k * (arr x0 x1 x2 x3 x4 x5 x6).g0 k) (c := 1024) (e := e) (by norm_num) he
    (ha.x0 s) (fun k => (ha.dh s k).mul (ha.g0 k)) j
  rw [← rowLen_eq, ← hee, ← half_eq] at key
  exact congrArg _ key

end Cert.Proof.Ref

end
-- ==== Proof.Host.lean ====
/- What the launch finds in memory: the kernel's host lines, read back as the reference's own. -/
module

public import proofs.«01_k».proof.Proof.Outs
public import proofs.«01_k».proof.Proof.Ref
public import Idealize.ShloMosaic.Lib.StableHlo.RunRead

@[expose] public section

set_option maxRecDepth 16384

noncomputable section

namespace Cert.Proof

open Cert.ReferenceIdeal.Read Idealize.ShloMosaic Idealize.ShloMosaic.TcCoe Cert.KernelIdeal Cert.KernelIdeal.Gen Idealize.ShloMosaic.Pointwise

variable (m : (ℓ : Loc nD τ sig) → Buf (Elt Ideal) ℓ) (c : Dev nD)

/-- `simp` enters the pieces of a concatenation by these. -/
theorem concatenate_two {F : EltTy → Type} {t a b : Shape} {e : EltTy} {d : Fin t.rank} {x x' : a.Idx → F e} {y y' : b.Idx → F e} (h) (hx : x = x')
    (hy : y = y') : concatenate t d [⟨a, x⟩, ⟨b, y⟩] h = concatenate t d [⟨a, x'⟩, ⟨b, y'⟩] h := by subst hx hy; rfl

theorem concatenate_four {F : EltTy → Type} {t a b c o : Shape} {e : EltTy} {d : Fin t.rank} {x x' : a.Idx → F e} {y y' : b.Idx → F e}
    {z z' : c.Idx → F e} {w w' : o.Idx → F e} (h) (hx : x = x') (hy : y = y') (hz : z = z') (hw : w = w') :
    concatenate t d [⟨a, x⟩, ⟨b, y⟩, ⟨c, z⟩, ⟨o, w⟩] h = concatenate t d [⟨a, x'⟩, ⟨b, y'⟩, ⟨c, z'⟩, ⟨o, w'⟩] h := by subst hx hy hz hw; rfl

attribute [local congr] concatenate_two concatenate_four

/-- The lines up to the running sum, and the lines after it. -/
theorem V_split (b : Ref sig .tc) : V m c b = StableHlo.after hostOps0_2 (StableHlo.after hostOps0_1 (StableHlo.after hostOps0 fun b => m (c, b))) b := by
  show StableHlo.after (List.flatten _) _ _ = _
  rw [List.flatten_cons, List.flatten_cons, List.flatten_cons, List.flatten_nil, List.append_nil, StableHlo.after_append, StableHlo.after_append]

theorem W_u : StableHlo.after hostOps0_1 (StableHlo.after hostOps0 fun b => m (c, b)) (Proc.devRef .tc main_v13)
    = val_main_v16 (F := Ideal) (m (c.tc.loc main_arg1)) (m (c.tc.loc main_arg2)) (m (c.tc.loc main_arg3)) := by
  after_reads_simp
  rfl

theorem W_sum : StableHlo.after hostOps0_1 (StableHlo.after hostOps0 fun b => m (c, b)) (Proc.devRef .tc main_v14)
    = val_main_v17 (F := Ideal) (m (c.tc.loc main_arg1)) (m (c.tc.loc main_arg2)) (m (c.tc.loc main_arg3)) := by
  after_reads_simp
  rfl

theorem V_p : V m c main_v90 = truncf (F := Ideal) .bf16 (shapeCast S8192x1024 (val_main_v95 (F := Ideal)
    (m (c.tc.loc main_arg1)) (m (c.tc.loc main_arg2)) (m (c.tc.loc main_arg3))) shapeCasts_S8192x4x256_S8192x1024) bitsLt_bf16_f32 := by
  rw [V_split]
  have hu := W_u m c
  have hs := W_sum m c
  generalize StableHlo.after hostOps0_1 (StableHlo.after hostOps0 fun b => m (c, b)) = W at hu hs ⊢
  after_reads_simp
  simp only [Matrix.cons_val]
  after_reads_simp
  rw [hu, hs]
  dsimp only [
    val_main_v18, val_main_v19, val_main_v20, val_main_cst_3, val_main_v21, val_main_v22, val_main_cst_4,
    val_main_v23, val_main_v24, val_main_c, val_main_v25, val_main_v26, val_main_c_5, val_main_v27,
    val_main_v28, val_main_v29, val_main_v30, val_main_v31, val_main_v32, val_main_v33, val_main_v34,
    val_main_v35, val_main_v36, val_main_v37, val_main_v38, val_main_cst_6, val_main_v39, val_main_v40,
    val_main_cst_7, val_main_v41, val_main_v42, val_main_c_8, val_main_v43, val_main_v44, val_main_c_9,
    val_main_v45, val_main_v46, val_main_v47, val_main_v48, val_main_v49, val_main_v50, val_main_v51,
    val_main_v52, val_main_v53, val_main_v54, val_main_v55, val_main_v56, val_main_cst_10, val_main_v57,
    val_main_v58, val_main_cst_11, val_main_v59, val_main_v60, val_main_c_12, val_main_v61, val_main_v62,
    val_main_c_13, val_main_v63, val_main_v64, val_main_v65, val_main_v66, val_main_v67, val_main_v68,
    val_main_v69, val_main_v70, val_main_v71, val_main_v72, val_main_v73, val_main_v74, val_main_cst_14,
    val_main_v75, val_main_v76, val_main_cst_15, val_main_v77, val_main_v78, val_main_c_16, val_main_v79,
    val_main_v80, val_main_c_17, val_main_v81, val_main_v82, val_main_v83, val_main_v84, val_main_v85,
    val_main_v86, val_main_v87, val_main_v88, val_main_v89, val_main_v90, val_main_v91, val_main_v92,
    val_main_v93, val_main_v94, val_main_v95]
  rfl

theorem V_win : V m c main_v91 = truncf (F := Ideal) .bf16 (m (c.tc.loc main_arg3) : Vec Ideal S1024x1024 .f32) bitsLt_bf16_f32 := by
  unfold V
  after_reads_simp

theorem V_wgrp : V m c main_v92 = truncf (F := Ideal) .bf16 (m (c.tc.loc main_arg4) : Vec Ideal S4x256x256 .f32) bitsLt_bf16_f32 := by
  unfold V
  after_reads_simp

theorem V_wout : V m c main_v93 = truncf (F := Ideal) .bf16 (m (c.tc.loc main_arg6) : Vec Ideal S1024x1024 .f32) bitsLt_bf16_f32 := by
  unfold V
  after_reads_simp

end Cert.Proof

end
-- ==== Proof.Arrays.lean ====
/- The kernel's arguments: the blocks the grid points read are the arguments' tiles. -/
module

public import proofs.«01_k».proof.Proof.Host

@[expose] public section

set_option maxRecDepth 16384

noncomputable section

namespace Cert.Proof

open Idealize.ShloMosaic Idealize.ShloMosaic.TcCoe Cert.KernelIdeal Cert.KernelIdeal.Gen Idealize.ShloMosaic.Pointwise

variable (m : (ℓ : Loc nD τ sig) → Buf (Elt Ideal) ℓ) (c : Dev nD)

/-- The kernel's arguments as the specification's arrays: the same arrays as the reference's. -/
def argArr : Arrays := Ref.arr (m (c.tc.loc main_arg0)) (m (c.tc.loc main_arg1)) (m (c.tc.loc main_arg2)) (m (c.tc.loc main_arg3))
  (m (c.tc.loc main_arg4)) (m (c.tc.loc main_arg5)) (m (c.tc.loc main_arg6))

/-- The block indices: the tiles are taken last first, the weights whole. -/
theorem idx (t : Fin grid0.N) : (win0_0.index t 0 = 15 - t.val ∧ win0_0.index t 1 = 0) ∧ (win0_1.index t 0 = 15 - t.val ∧ win0_1.index t 1 = 0) ∧ (win0_2.index t 0 = 0 ∧ win0_2.index t 1 = 0)
    ∧ (win0_3.index t 0 = 15 - t.val ∧ win0_3.index t 1 = 0) ∧ (win0_4.index t 0 = 0 ∧ win0_4.index t 1 = 0)
    ∧ (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0) ∧ (win0_8.index t 0 = 15 - t.val ∧ win0_8.index t 1 = 0)
    ∧ (win0_9.index t 0 = 15 - t.val ∧ win0_9.index t 1 = 0) ∧ (win0_10.index t 0 = 15 - t.val ∧ win0_10.index t 1 = 0)
    ∧ (win0_11.index t 0 = 15 - t.val ∧ win0_11.index t 1 = 0) ∧ (win0_12.index t 0 = 15 - t.val ∧ win0_12.index t 1 = 0) := by
  revert t; decide +kernel

theorem read_dx1 (t : Fin cfg0.N) (r j) : iblk m c 0 t (ix2 r j) = m (c.tc.loc main_arg0) (ix2 (tileRow (tileOf t) r) j) := by
  blk_simp [iblk]
  rw [V_main_arg0]
  refine congrArg (m (c.tc.loc main_arg0)) ?_
  blk_ext [idx t, tileRow, tileOf]

theorem read_x0 (t : Fin cfg0.N) (r j) : iblk m c 1 t (ix2 r j) = m (c.tc.loc main_arg1) (ix2 (tileRow (tileOf t) r) j) := by
  blk_simp [iblk]
  rw [V_main_arg1]
  refine congrArg (m (c.tc.loc main_arg1)) ?_
  blk_ext [idx t, tileRow, tileOf]

theorem read_g0 (t : Fin cfg0.N) (j) : iblk m c 2 t (ix2 0 j) = m (c.tc.loc main_arg2) (ix2 0 j) := by
  blk_simp [iblk]
  rw [V_main_arg2]
  refine congrArg (m (c.tc.loc main_arg2)) ?_
  blk_ext [idx t, tileRow, tileOf]

theorem read_win (t : Fin cfg0.N) (i j) : iblk m c 4 t (ix2 i j) = m (c.tc.loc main_arg3) (ix2 i j) := by
  blk_simp [iblk]
  rw [V_win]
  refine congrArg (m (c.tc.loc main_arg3)) ?_
  blk_ext [idx t, tileRow, tileOf]

theorem read_wgrp (t : Fin cfg0.N) (g i j) : iblk m c 5 t (ix3 g i j) = m (c.tc.loc main_arg4) (ix3 g i j) := by
  blk_simp [iblk]
  rw [V_wgrp]
  refine congrArg (m (c.tc.loc main_arg4)) ?_
  blk_ext [idx t, tileRow, tileOf]

theorem read_scale (t : Fin cfg0.N) (j) : iblk m c 6 t (ix2 0 j) = m (c.tc.loc main_arg5) (ix2 0 j) := by
  blk_simp [iblk]
  rw [V_main_arg5]
  refine congrArg (m (c.tc.loc main_arg5)) ?_
  blk_ext [idx t, tileRow, tileOf]

theorem read_wout (t : Fin cfg0.N) (i j) : iblk m c 7 t (ix2 i j) = m (c.tc.loc main_arg6) (ix2 i j) := by
  blk_simp [iblk]
  rw [V_wout]
  refine congrArg (m (c.tc.loc main_arg6)) ?_
  blk_ext [idx t, tileRow, tileOf]

/-- The kernel keeps the pooled differences as rows of 1024 lanes. -/
theorem read_p (t : Fin cfg0.N) (r j) : iblk m c 3 t (ix2 r j) = Cert.ReferenceIdeal.Read.val_main_v95 (F := Ideal)
    (m (c.tc.loc main_arg1)) (m (c.tc.loc main_arg2)) (m (c.tc.loc main_arg3)) (ix3 (tileRow (tileOf t) r) (grp j) (sub j)) := by
  blk_simp [iblk]
  rw [V_p]
  generalize Cert.ReferenceIdeal.Read.val_main_v95 (F := Ideal) _ _ _ = X
  refine Eq.trans (b := shapeCast S8192x1024 X shapeCasts_S8192x4x256_S8192x1024 (ix2 (tileRow (tileOf t) r) j)) (congrArg _ ?_) ?_
  · blk_ext [idx t, tileRow, tileOf]
  · pointwise
    rfl

theorem reads : Reads m c (argArr m c) := fun t =>
  ⟨read_dx1 m c t, read_x0 m c t, read_g0 m c t, read_p m c t, read_win m c t, read_wgrp m c t, read_scale m c t, read_wout m c t⟩

end Cert.Proof

end
-- ==== Proof.Mixer.lean ====
/- The mixer's stored gradient at each grid point, and what the norm in front of it makes of it. -/
module

public import proofs.«01_k».proof.Proof.Outs

@[expose] public section

set_option maxRecDepth 16384
set_option maxHeartbeats 1000000

noncomputable section

namespace Cert.Proof

open Idealize.ShloMosaic Cert.KernelIdeal Cert.KernelIdeal.Gen Idealize.ShloMosaic.Pointwise

variable {m : (ℓ : Loc nD τ sig) → Buf (Elt Ideal) ℓ} {c : Dev nD} {a : Arrays} (T : Reads m c a) (t : Fin cfg0.N)

/-- `H` holds the 16 rows after tile `n`. -/
def After (a : Arrays) (n : Fin 16) (H : Vec Ideal S16x1024 .f32) : Prop := ∀ k j, H (ix2 k j) = a.dpc (n.val * 512 + (512 + k.val)) j

section Groups

variable {H : Vec Ideal S16x1024 .f32} (hH : After a (tileOf t) H)

include T hH

theorem du0 (r e) : k0_pay17 (k0_pay8 (grid0.coords t)) (k0_pay10 (iblk m c 0 t) (iblk m c 7 t)) (View.ld (iblk m c 6 t) (Rect.unit ![0, 0] ![1, 256] inb_S1x1024_S1x256_0_0)) (View.ld (iblk m c 5 t) (Rect.unit ![0, 0, 0] ![1, 256, 256] inb_S4x256x256_S1x256x256_0_0_0)) (View.ld H (Rect.unit ![0, 0] ![16, 256] inb_S16x1024_S16x256_0_0)) (ix2 r e)
    = a.du (tileRow (tileOf t) r) (lane 0 e) :=
  have h1 := Wins.one (f := fun r e => a.dpc ((tileOf t).val * 512 + r) (lane 0 e)) (dpc0 T t)
    (H := View.ld H (Rect.unit ![0, 0] ![16, 256] inb_S16x1024_S16x256_0_0))
    (fun k e => by pointwise []; rw [lane0]; exact hH k _)
  have h2 := h1.double (rot1 _) (by decide)
  du_of T t (w := 2) rfl (by decide) h2 (dp0 T t) r e

theorem du1 (r e) : k0_pay28 (k0_pay23 (k0_pay19 (k0_pay7 (iblk m c 0 t) (iblk m c 7 t))) (View.ld (iblk m c 6 t) (Rect.unit ![0, 256] ![1, 256] inb_S1x1024_S1x256_0_256)) (View.ld (iblk m c 5 t) (Rect.unit ![1, 0, 0] ![1, 256, 256] inb_S4x256x256_S1x256x256_1_0_0)))
      (k0_pay25 (k0_pay8 (grid0.coords t)) (k0_pay19 (k0_pay7 (iblk m c 0 t) (iblk m c 7 t))) (View.ld (iblk m c 6 t) (Rect.unit ![0, 256] ![1, 256] inb_S1x1024_S1x256_0_256)) (View.ld (iblk m c 5 t) (Rect.unit ![1, 0, 0] ![1, 256, 256] inb_S4x256x256_S1x256x256_1_0_0)) (View.ld H (Rect.unit ![0, 256] ![16, 256] inb_S16x1024_S16x256_0_256))) (ix2 r e)
    = a.du (tileRow (tileOf t) r) (lane 1 e) :=
  have h1 := Wins.one (f := fun r e => a.dpc ((tileOf t).val * 512 + r) (lane 1 e)) (dpc1 T t)
    (H := View.ld H (Rect.unit ![0, 256] ![16, 256] inb_S16x1024_S16x256_0_256))
    (fun k e => by pointwise []; rw [lane1]; exact hH k _)
  have h2 := h1.double (rot1 _) (by decide)
  have h4 := h2.double (rot2 _) (by decide)
  du_of T t (w := 4) rfl (by decide) h4 (dp1 T t) r e

theorem du2 (r e) : k0_pay37 (k0_pay8 (grid0.coords t)) (k0_pay33 (k0_pay7 (iblk m c 0 t) (iblk m c 7 t)) (View.ld (iblk m c 6 t) (Rect.unit ![0, 512] ![1, 256] inb_S1x1024_S1x256_0_512))) (View.ld (iblk m c 5 t) (Rect.unit ![2, 0, 0] ![1, 256, 256] inb_S4x256x256_S1x256x256_2_0_0)) (View.ld H (Rect.unit ![0, 512] ![16, 256] inb_S16x1024_S16x256_0_512)) (ix2 r e)
    = a.du (tileRow (tileOf t) r) (lane 2 e) :=
  have h1 := Wins.one (f := fun r e => a.dpc ((tileOf t).val * 512 + r) (lane 2 e)) (dpc2 T t)
    (H := View.ld H (Rect.unit ![0, 512] ![16, 256] inb_S16x1024_S16x256_0_512))
    (fun k e => by pointwise []; rw [lane2]; exact hH k _)
  have h2 := h1.double (rot1 _) (by decide)
  have h4 := h2.double (rot2 _) (by decide)
  have h8 := h4.double (rot4 _) (by decide)
  du_of T t (w := 8) rfl (by decide) h8 (dp2 T t) r e

theorem du3 (r e) : k0_pay48 (k0_pay43 (k0_pay39 (k0_pay7 (iblk m c 0 t) (iblk m c 7 t))) (View.ld (iblk m c 6 t) (Rect.unit ![0, 768] ![1, 256] inb_S1x1024_S1x256_0_768)) (View.ld (iblk m c 5 t) (Rect.unit ![3, 0, 0] ![1, 256, 256] inb_S4x256x256_S1x256x256_3_0_0)))
      (k0_pay45 (k0_pay8 (grid0.coords t)) (k0_pay39 (k0_pay7 (iblk m c 0 t) (iblk m c 7 t))) (View.ld (iblk m c 6 t) (Rect.unit ![0, 768] ![1, 256] inb_S1x1024_S1x256_0_768)) (View.ld (iblk m c 5 t) (Rect.unit ![3, 0, 0] ![1, 256, 256] inb_S4x256x256_S1x256x256_3_0_0)) (View.ld H (Rect.unit ![0, 768] ![16, 256] inb_S16x1024_S16x256_0_768))) (ix2 r e)
    = a.du (tileRow (tileOf t) r) (lane 3 e) :=
  have h1 := Wins.one (f := fun r e => a.dpc ((tileOf t).val * 512 + r) (lane 3 e)) (dpc3 T t)
    (H := View.ld H (Rect.unit ![0, 768] ![16, 256] inb_S16x1024_S16x256_0_768))
    (fun k e => by pointwise []; rw [lane3]; exact hH k _)
  have h2 := h1.double (rot1 _) (by decide)
  have h4 := h2.double (rot2 _) (by decide)
  have h8 := h4.double (rot4 _) (by decide)
  have h16 := h8.double (rot8 _) (by decide)
  du_of T t (w := 16) rfl (by decide) h16 (dp3 T t) r e

end Groups

/-- The rows carried into the first grid point, past the last token, are zero; those carried into another are the first
    of the tile after its own. -/
theorem after_zero (h0 : t.val % 16 = 0) : After a (tileOf t) (k0_pay4 (F := Ideal)) := by
  intro k j
  have ht : t.val = 0 := by have : t.val < 16 := t.isLt; omega
  rw [dpc_past a _ (by show 8192 ≤ (15 - t.val) * 512 + (512 + k.val); omega)]
  pointwise [k0_pay4]

include T in
theorem after_carried (h0 : ¬ t.val % 16 = 0) :
    After a (tileOf t) (outsAt0 m c (t.val - 1) (Nat.lt_of_le_of_lt (Nat.sub_le _ _) t.isLt)).2.2.2.2.2.2.2 := by
  intro k j
  refine (out_head T ⟨t.val - 1, Nat.lt_of_le_of_lt (Nat.sub_le _ _) t.isLt⟩ _).trans (congrArg (fun s => a.dpc s j) ?_)
  have : t.val < 16 := t.isLt
  show (15 - (t.val - 1)) * 512 + k.val = (15 - t.val) * 512 + (512 + k.val)
  omega

include T in
theorem out_du (y) : (outsAt0 m c t.val t.isLt).2.2.2.1 y = a.du (tileRow (tileOf t) (y 0)) (y 1) := by
  by_cases h0 : t.val % 16 = 0
  · have hH := after_zero (a := a) t h0
    rw [outsAt0_A m c t h0]
    frame_open
    simp (disch := decide) only [↓ View.readCov_skip, ↓ View.readCov_cons_toLoadRect, ↓ View.readCov_fill]
    frame_out
    exact canon_groups (Val := Elt Ideal) (ty := .bf16) (fun r j => a.du (tileRow (tileOf t) r) j) _ _ _ _ _ _ _ _ _
      (du0 T t hH) (du1 T t hH) (du2 T t hH) (du3 T t hH) y
  · have hH := after_carried T t h0
    rw [outsAt0_B m c t h0]
    frame_out
    simp only [read_unread_whole]
    exact canon_groups (Val := Elt Ideal) (ty := .bf16) (fun r j => a.du (tileRow (tileOf t) r) j) _ _ _ _ _ _ _ _ _
      (du0 T t hH) (du1 T t hH) (du2 T t hH) (du3 T t hH) y

end Cert.Proof

end
-- ==== Proof.Norm.lean ====
/- The rest of what each grid point leaves: the normalised input, the input's gradient, and what the point adds to the two
   running sums. -/
module

public import proofs.«01_k».proof.Proof.Mixer

@[expose] public section

set_option maxRecDepth 16384
set_option maxHeartbeats 1000000

noncomputable section

namespace Cert.Proof

open Idealize.ShloMosaic Cert.KernelIdeal Cert.KernelIdeal.Gen Idealize.ShloMosaic.Pointwise

variable {m : (ℓ : Loc nD τ sig) → Buf (Elt Ideal) ℓ} {c : Dev nD} {a : Arrays} (T : Reads m c a) (t : Fin cfg0.N)

include T

theorem r_of (r : Fin 512) (k : Fin 1) : k0_pay51 (iblk m c 1 t) (ix2 r k) = a.r (tileRow (tileOf t) r) := by
  pointwise [k0_pay51]
  simp only [(T t).x0]
  rfl

theorem out_h (y) : (outsAt0 m c t.val t.isLt).2.2.2.2.1 y = a.h (tileRow (tileOf t) (y 0)) (y 1) := by
  obtain ⟨r, j, rfl⟩ : ∃ (r : Fin 512) (j : Fin 1024), y = ix2 r j := ⟨y 0, y 1, eq_ix2 y⟩
  by_cases h0 : t.val % 16 = 0
  on_goal 1 => rw [outsAt0_A m c t h0]
  on_goal 2 => rw [outsAt0_B m c t h0]
  all_goals
    frame_out
    pointwise [k0_pay50]
    simp only [(T t).x0, (T t).g0]
    rfl

theorem dh_of {U : Vec Ideal S512x1024 .bf16} (hU : ∀ r j, U (ix2 r j) = a.du (tileRow (tileOf t) r) j) (r : Fin 512) (j : Fin 1024) :
    k0_pay49 U (iblk m c 4 t) (ix2 r j) = a.dh (tileRow (tileOf t) r) j := by
  pointwise [k0_pay49]
  simp only [hU, (T t).win, Arrays.dh]

theorem dx_of {V : FVec Ideal S512x1024 .f32} (hV : ∀ r j, V (ix2 r j) = a.dh (tileRow (tileOf t) r) j) (r : Fin 512) (j : Fin 1024) :
    k0_pay2 (iblk m c 0 t) V (iblk m c 1 t) (iblk m c 2 t) (k0_pay51 (iblk m c 1 t)) (ix2 r j) = a.dx (tileRow (tileOf t) r) j := by
  pointwise [k0_pay2, k0_pay1]
  simp only [hV, (T t).x0, (T t).g0, (T t).dx1, r_of T]
  rfl

theorem dg_of {V : FVec Ideal S512x1024 .f32} (hV : ∀ r j, V (ix2 r j) = a.dh (tileRow (tileOf t) r) j) (S : Vec Ideal S1x1024 .f32) (k : Fin 1) (j : Fin 1024) :
    k0_pay3 V (iblk m c 1 t) (k0_pay51 (iblk m c 1 t)) S (ix2 k j)
      = S (ix2 k j) + ∑ r, a.dh (tileRow (tileOf t) r) j * (a.x0 (tileRow (tileOf t) r) j * a.r (tileRow (tileOf t) r)) := by
  pointwise [k0_pay3, k0_pay1]
  simp only [hV, (T t).x0, r_of T]

omit T in
/-- Four stores side by side, loaded again whole. -/
theorem readCov_groups {Val : EltTy → Type} [∀ e, Nonempty (Val e)] {sig : RefSig} {κ : Kind} {sp : Space} {ty : EltTy} {R : ℕ}
    (v : View sig κ sp (⟨2, ![R, 1024]⟩ : Shape) ty) (G : Fin R → Fin 1024 → Val ty)
    (P0 P1 P2 P3 : (⟨2, ![R, 256]⟩ : Shape).Idx → Val ty) (i0 i1 i2 i3)
    (i : ∀ b, ![0, 0] b + ![R, 1024] b ≤ (⟨2, ![R, 1024]⟩ : Shape).size b) (L : List (View.Piece Val (⟨2, ![R, 1024]⟩ : Shape) ty))
    (h0 : ∀ r e, P0 (ix2 r e) = G r (lane 0 e)) (h1 : ∀ r e, P1 (ix2 r e) = G r (lane 1 e))
    (h2 : ∀ r e, P2 (ix2 r e) = G r (lane 2 e)) (h3 : ∀ r e, P3 (ix2 r e) = G r (lane 3 e)) :
    v.readCov (⟨Rect.unit ![0, 768] ![R, 256] i3, P3⟩ :: ⟨Rect.unit ![0, 512] ![R, 256] i2, P2⟩
      :: ⟨Rect.unit ![0, 256] ![R, 256] i1, P1⟩ :: ⟨Rect.unit ![0, 0] ![R, 256] i0, P0⟩ :: L)
      (Rect.unit (s := ⟨2, ![R, 1024]⟩) ![0, 0] ![R, 1024] i).toLoadRect = fun y : (⟨2, ![R, 1024]⟩ : Shape).Idx => G (y 0) (y 1) := by
  rw [View.readCov_eq_canon']
  funext y
  have e := fun b => Rect.idx_unit_val (s := ⟨2, ![R, 1024]⟩) ![0, 0] ![R, 1024] i y b
  refine (canon_groups G P0 P1 P2 P3 i0 i1 i2 i3 L h0 h1 h2 h3 _).trans (congrArg₂ G (Fin.ext ?_) (Fin.ext ?_))
  · exact (e 0).trans (Nat.zero_add _)
  · exact (e 1).trans (Nat.zero_add _)

theorem out_dx (y) : (outsAt0 m c t.val t.isLt).1 y = a.dx (tileRow (tileOf t) (y 0)) (y 1) := by
  obtain ⟨r, j, rfl⟩ : ∃ (r : Fin 512) (j : Fin 1024), y = ix2 r j := ⟨y 0, y 1, eq_ix2 y⟩
  by_cases h0 : t.val % 16 = 0
  · have hH := after_zero (a := a) t h0
    rw [outsAt0_A m c t h0]
    frame_open
    simp (disch := decide) only [↓ View.readCov_skip, ↓ View.readCov_cons_toLoadRect, ↓ View.readCov_fill]
    frame_out
    refine dx_of T t (fun r j => ?_) r j
    refine dh_of T t (fun r j => ?_) r j
    exact congrFun (readCov_groups (Val := Elt Ideal) (ty := .bf16) _ (fun r j => a.du (tileRow (tileOf t) r) j) _ _ _ _ _ _ _ _ _ _
      (du0 T t hH) (du1 T t hH) (du2 T t hH) (du3 T t hH)) (ix2 r j)
  · have hH := after_carried T t h0
    rw [outsAt0_B m c t h0]
    frame_out
    simp only [read_unread_whole]
    refine dx_of T t (fun r j => ?_) r j
    refine dh_of T t (fun r j => ?_) r j
    exact congrFun (readCov_groups (Val := Elt Ideal) (ty := .bf16) _ (fun r j => a.du (tileRow (tileOf t) r) j) _ _ _ _ _ _ _ _ _ _
      (du0 T t hH) (du1 T t hH) (du2 T t hH) (du3 T t hH)) (ix2 r j)

end Cert.Proof

end
-- ==== Proof.Sums.lean ====
/- What each grid point adds to the two running sums: the gradients of the scale and of the norm's gain. -/
module

public import proofs.«01_k».proof.Proof.Norm

@[expose] public section

set_option maxRecDepth 16384
set_option maxHeartbeats 1000000

noncomputable section

namespace Cert.Proof

open Idealize.ShloMosaic Cert.KernelIdeal Cert.KernelIdeal.Gen Idealize.ShloMosaic.Pointwise

variable {m : (ℓ : Loc nD τ sig) → Buf (Elt Ideal) ℓ} {c : Dev nD} {a : Arrays} (T : Reads m c a) (t : Fin cfg0.N)

include T

theorem dg_reset (h0 : t.val % 16 = 0) (y) : (outsAt0 m c t.val t.isLt).2.2.2.2.2.2.1 y
    = 0 + ∑ r, a.dh (tileRow (tileOf t) r) (y 1) * (a.x0 (tileRow (tileOf t) r) (y 1) * a.r (tileRow (tileOf t) r)) := by
  obtain ⟨k, j, rfl⟩ : ∃ (k : Fin 1) (j : Fin 1024), y = ix2 k j := ⟨y 0, y 1, eq_ix2 y⟩
  have hH := after_zero (a := a) t h0
  rw [outsAt0_A m c t h0]
  frame_open
  simp (disch := decide) only [↓ View.readCov_skip, ↓ View.readCov_cons_toLoadRect, ↓ View.readCov_fill]
  frame_out
  refine (dg_of T t (fun r j => ?_) _ k j).trans
    (congrArg (· + _) (by pointwise [k0_pay6] : k0_pay6 (F := Ideal) (ix2 k j) = 0))
  refine dh_of T t (fun r j => ?_) r j
  exact congrFun (readCov_groups (Val := Elt Ideal) (ty := .bf16) _ (fun r j => a.du (tileRow (tileOf t) r) j) _ _ _ _ _ _ _ _ _ _
    (du0 T t hH) (du1 T t hH) (du2 T t hH) (du3 T t hH)) (ix2 r j)

theorem dg_step (h0 : ¬ t.val % 16 = 0) (y) : (outsAt0 m c t.val t.isLt).2.2.2.2.2.2.1 y
    = (outsAt0 m c (t.val - 1) (Nat.lt_of_le_of_lt (Nat.sub_le _ _) t.isLt)).2.2.2.2.2.2.1 y
      + ∑ r, a.dh (tileRow (tileOf t) r) (y 1) * (a.x0 (tileRow (tileOf t) r) (y 1) * a.r (tileRow (tileOf t) r)) := by
  obtain ⟨k, j, rfl⟩ : ∃ (k : Fin 1) (j : Fin 1024), y = ix2 k j := ⟨y 0, y 1, eq_ix2 y⟩
  have hH := after_carried T t h0
  rw [outsAt0_B m c t h0]
  frame_out
  simp only [read_unread_whole]
  refine dg_of T t (fun r j => ?_) _ k j
  refine dh_of T t (fun r j => ?_) r j
  exact congrFun (readCov_groups (Val := Elt Ideal) (ty := .bf16) _ (fun r j => a.du (tileRow (tileOf t) r) j) _ _ _ _ _ _ _ _ _ _
    (du0 T t hH) (du1 T t hH) (du2 T t hH) (du3 T t hH)) (ix2 r j)

theorem dsc_reset (h0 : t.val % 16 = 0) (y) : (outsAt0 m c t.val t.isLt).2.2.2.2.2.1 y
    = 0 + ∑ r, a.dz (tileRow (tileOf t) r) (y 1) * a.zpre (tileRow (tileOf t) r) (y 1) := by
  rw [outsAt0_A m c t h0]
  frame_open
  simp (disch := decide) only [↓ View.readCov_skip, ↓ View.readCov_cons_toLoadRect, ↓ View.readCov_fill]
  frame_out
  refine canon_groups (Val := Elt Ideal) (ty := .f32) (fun _ j => 0 + ∑ r, a.dz (tileRow (tileOf t) r) j * a.zpre (tileRow (tileOf t) r) j)
    _ _ _ _ _ _ _ _ _ ?_ ?_ ?_ ?_ y <;> intro r e <;>
    pointwise [k0_pay5, k0_pay40, k0_pay38, k0_pay39, k0_pay31, k0_pay30, k0_pay29, k0_pay20, k0_pay18, k0_pay19, k0_pay11, k0_pay10, k0_pay9, k0_pay7] <;>
    simp only [lane0, lane1, lane2, lane3, (T t).dx1, (T t).wout, (T t).p, (T t).wgrp, Arrays.dz, Arrays.zpre, grp_lane, sub_lane]

theorem dsc_step (h0 : ¬ t.val % 16 = 0) (y) : (outsAt0 m c t.val t.isLt).2.2.2.2.2.1 y
    = (outsAt0 m c (t.val - 1) (Nat.lt_of_le_of_lt (Nat.sub_le _ _) t.isLt)).2.2.2.2.2.1 y
      + ∑ r, a.dz (tileRow (tileOf t) r) (y 1) * a.zpre (tileRow (tileOf t) r) (y 1) := by
  rw [outsAt0_B m c t h0]
  frame_out
  rw [eq_ix2 y]
  refine canon_groups (Val := Elt Ideal) (ty := .f32) (fun k j =>
    (outsAt0 m c (t.val - 1) (Nat.lt_of_le_of_lt (Nat.sub_le _ _) t.isLt)).2.2.2.2.2.1 (ix2 k j)
      + ∑ r, a.dz (tileRow (tileOf t) r) j * a.zpre (tileRow (tileOf t) r) j)
    _ _ _ _ _ _ _ _ _ ?_ ?_ ?_ ?_ _ <;> intro r e <;> obtain rfl : r = 0 := Subsingleton.elim _ _ <;>
    pointwise [k0_pay40, k0_pay38, k0_pay39, k0_pay31, k0_pay30, k0_pay29, k0_pay20, k0_pay18, k0_pay19, k0_pay11, k0_pay10, k0_pay9, k0_pay7] <;>
    simp only [lane0, lane1, lane2, lane3, (T t).dx1, (T t).wout, (T t).p, (T t).wgrp, Arrays.dz, Arrays.zpre, grp_lane, sub_lane]

end Cert.Proof

end
-- ==== Proof.Results.lean ====
/- The kernel's seven results: the blocks the grid points leave tile the specification's arrays. -/
module

public import proofs.«01_k».proof.Proof.Arrays
public import proofs.«01_k».proof.Proof.Sums

@[expose] public section

set_option maxRecDepth 16384
set_option maxHeartbeats 1000000

noncomputable section

namespace Cert.Proof

open Idealize.ShloMosaic Idealize.ShloMosaic.TcCoe Cert.KernelIdeal Cert.KernelIdeal.Gen Idealize.ShloMosaic.Pointwise

variable {m : (ℓ : Loc nD τ sig) → Buf (Elt Ideal) ℓ} {c : Dev nD} {a : Arrays} (T : Reads m c a)

include T

theorem arr_dx : (dats m 0 c).arrAt 8 cfg0.N = (fun y => a.dx (y 0) (y 1) : Vec Ideal S8192x1024 .f32) := by
  refine (dats m 0 c).arrAt_eq_of_covers 8 _ (by decide +kernel) fun t hf y => ?_
  blk_simp
  rw [after0_8]
  refine (out_dx T t y).trans (congrArg₂ a.dx (Fin.ext ?_) (Fin.ext ?_))
  · blk_simp [idx t]
    rfl
  · blk_simp [idx t]

theorem arr_z : (dats m 0 c).arrAt 9 cfg0.N = (fun y => a.z (y 0) (y 1) : Vec Ideal S8192x1024 .bf16) := by
  refine (dats m 0 c).arrAt_eq_of_covers 9 _ (by decide +kernel) fun t hf y => ?_
  blk_simp
  rw [after0_9]
  refine (out_z T t y).trans (congrArg₂ a.z (Fin.ext ?_) (Fin.ext ?_))
  · blk_simp [idx t]
    rfl
  · blk_simp [idx t]

theorem arr_dzpre : (dats m 0 c).arrAt 10 cfg0.N = (fun y => a.dzpre (y 0) (y 1) : Vec Ideal S8192x1024 .bf16) := by
  refine (dats m 0 c).arrAt_eq_of_covers 10 _ (by decide +kernel) fun t hf y => ?_
  blk_simp
  rw [after0_10]
  refine (out_dzpre T t y).trans (congrArg₂ a.dzpre (Fin.ext ?_) (Fin.ext ?_))
  · blk_simp [idx t]
    rfl
  · blk_simp [idx t]

theorem arr_du : (dats m 0 c).arrAt 11 cfg0.N = (fun y => a.du (y 0) (y 1) : Vec Ideal S8192x1024 .bf16) := by
  refine (dats m 0 c).arrAt_eq_of_covers 11 _ (by decide +kernel) fun t hf y => ?_
  blk_simp
  rw [after0_11]
  refine (out_du T t y).trans (congrArg₂ a.du (Fin.ext ?_) (Fin.ext ?_))
  · blk_simp [idx t]
    rfl
  · blk_simp [idx t]

theorem arr_h : (dats m 0 c).arrAt 12 cfg0.N = (fun y => a.h (y 0) (y 1) : Vec Ideal S8192x1024 .bf16) := by
  refine (dats m 0 c).arrAt_eq_of_covers 12 _ (by decide +kernel) fun t hf y => ?_
  blk_simp
  rw [after0_12]
  refine (out_h T t y).trans (congrArg₂ a.h (Fin.ext ?_) (Fin.ext ?_))
  · blk_simp [idx t]
    rfl
  · blk_simp [idx t]

end Cert.Proof

end
-- ==== Proof.Totals.lean ====
/- The kernel's two running sums: after the last grid point they are over all tokens. -/
module

public import proofs.«01_k».proof.Proof.Arrays
public import proofs.«01_k».proof.Proof.Sums

@[expose] public section

set_option maxRecDepth 16384
set_option maxHeartbeats 1000000

noncomputable section

namespace Cert.Proof

open Idealize.ShloMosaic Idealize.ShloMosaic.TcCoe Cert.KernelIdeal Cert.KernelIdeal.Gen Idealize.ShloMosaic.Pointwise

variable {m : (ℓ : Loc nD τ sig) → Buf (Elt Ideal) ℓ} {c : Dev nD} {a : Arrays} (T : Reads m c a)

include T

omit T in
/-- A sum taken tile by tile from the last tile to the first. -/
theorem sum_back {g : (n : ℕ) → n < 16 → EReal} {f : Fin 16 → EReal} (h0 : ∀ h, g 0 h = 0 + f 15)
    (hs : ∀ n h, g (n + 1) h = g n (by omega) + f ⟨15 - (n + 1), by omega⟩) (h) : g 15 h = ∑ n, f n := by
  have key : ∀ n h, g n h = ∑ i ∈ Finset.range (n + 1), if hi : i < 16 then f (Fin.rev ⟨i, hi⟩) else 0 := by
    intro n
    induction n with
    | zero => intro h; rw [h0, Finset.sum_range_one, zero_add]; rfl
    | succ n ih =>
      intro h
      rw [hs, ih, Finset.sum_range_succ _ (n + 1), dif_pos h]
      exact congrArg (_ + f ·) (Fin.ext (by simp only [Fin.val_rev]; omega))
  rw [key, ← Fin.sum_univ_eq_sum_range (fun i => if hi : i < 16 then f (Fin.rev ⟨i, hi⟩) else 0), ← Equiv.sum_comp Fin.revPerm f]
  exact Finset.sum_congr rfl fun i _ => (dif_pos i.isLt).trans rfl

omit T in
/-- The grid points are the sixteen. -/
theorem lt_N {n : ℕ} (h : n < 16) : n < cfg0.N := lt_of_lt_of_eq h N_0.symm

theorem last_dscale (y) : (outsAt0 m c t0_15.val t0_15.isLt).2.2.2.2.2.1 y = a.dscale (y 1) := by
  obtain ⟨k, j, rfl⟩ : ∃ (k : Fin 1) (j : Fin 1024), y = ix2 k j := ⟨y 0, y 1, eq_ix2 y⟩
  refine (sum_back (g := fun n h => (outsAt0 m c n (lt_N h)).2.2.2.2.2.1 (ix2 k j)) (f := fun n => ∑ r, a.dz (tileRow n r) j * a.zpre (tileRow n r) j)
    (fun h => ?_) (fun n h => ?_) (by decide)).trans (sum_tiles (fun s => a.dz s j * a.zpre s j)).symm
  · exact dsc_reset T ⟨0, lt_N h⟩ rfl (ix2 k j)
  · exact dsc_step T ⟨n + 1, lt_N h⟩ (by show ¬ (n + 1) % 16 = 0; omega) (ix2 k j)

theorem arr_dscale : (dats m 0 c).arrAt 13 cfg0.N = (fun y => a.dscale (y 1) : Vec Ideal S1x1024 .f32) := by
  refine (dats m 0 c).arrAt_eq_of_after_last 13 t0_15 (by decide +kernel) _ fun y => ?_
  blk_simp
  rw [after0_13]
  exact last_dscale T y

theorem last_dg (y) : (outsAt0 m c t0_15.val t0_15.isLt).2.2.2.2.2.2.1 y = a.dg (y 1) := by
  obtain ⟨k, j, rfl⟩ : ∃ (k : Fin 1) (j : Fin 1024), y = ix2 k j := ⟨y 0, y 1, eq_ix2 y⟩
  refine (sum_back (g := fun n h => (outsAt0 m c n (lt_N h)).2.2.2.2.2.2.1 (ix2 k j)) (f := fun n => ∑ r, a.dh (tileRow n r) j * (a.x0 (tileRow n r) j * a.r (tileRow n r)))
    (fun h => ?_) (fun n h => ?_) (by decide)).trans (sum_tiles (fun s => a.dh s j * (a.x0 s j * a.r s))).symm
  · exact dg_reset T ⟨0, lt_N h⟩ rfl (ix2 k j)
  · exact dg_step T ⟨n + 1, lt_N h⟩ (by show ¬ (n + 1) % 16 = 0; omega) (ix2 k j)

theorem arr_dg : (dats m 0 c).arrAt 14 cfg0.N = (fun y => a.dg (y 1) : Vec Ideal S1x1024 .f32) := by
  refine (dats m 0 c).arrAt_eq_of_after_last 14 t0_15 (by decide +kernel) _ fun y => ?_
  blk_simp
  rw [after0_14]
  exact last_dg T y

end Cert.Proof

end
-- ==== Proof.Runs.lean ====
/- The two programs' results: each run ends with the specification's arrays. -/
module

public import proofs.«01_k».proof.Proof.Results
public import proofs.«01_k».proof.Proof.Totals
public import proofs.«01_k».proof.Proof.Gen.ReferenceIdeal.Run

@[expose] public section

set_option maxRecDepth 16384

noncomputable section

namespace Cert.Proof

open Idealize.ShloMosaic Idealize.ShloMosaic.TcCoe Idealize.SL.Sem Idealize.ShloMosaic.Pointwise

/-- An array of 8192 tokens by its entries, and a row of 1024 lanes by its entries. -/
def tokens (f : Fin 8192 → Fin 1024 → EReal) : (⟨2, ![8192, 1024]⟩ : Shape).Idx → EReal := fun y => f (y 0) (y 1)
def lanes (f : Fin 1024 → EReal) : (⟨2, ![1, 1024]⟩ : Shape).Idx → EReal := fun y => f (y 1)

theorem eq_tokens {X : (⟨2, ![8192, 1024]⟩ : Shape).Idx → EReal} {f : Fin 8192 → Fin 1024 → EReal} (h : ∀ s j, X (ix2 s j) = f s j) : X = tokens f :=
  funext fun y => (congrArg X (eq_ix2 y)).trans (h (y 0) (y 1))

theorem eq_lanes {X : (⟨2, ![1, 1024]⟩ : Shape).Idx → EReal} {f : Fin 1024 → EReal} (h : ∀ j, X (ix2 0 j) = f j) : X = lanes f :=
  funext fun y => (congrArg X ((eq_ix2 y).trans (congrArg (ix2 · (y 1)) (Subsingleton.elim (α := Fin 1) (y 0) 0)))).trans (h (y 1))

section
open Cert.KernelIdeal Cert.KernelIdeal.Gen

variable {m : (ℓ : Loc nD τ sig) → Buf (Elt Ideal) ℓ} {c : Dev nD} {a : Arrays} (T : Reads m c a)
include T

theorem res_dx : (dats m 0 c).arrAt 8 cfg0.N = tokens a.dx := arr_dx T
theorem res_z : (dats m 0 c).arrAt 9 cfg0.N = tokens a.z := arr_z T
theorem res_dzpre : (dats m 0 c).arrAt 10 cfg0.N = tokens a.dzpre := arr_dzpre T
theorem res_du : (dats m 0 c).arrAt 11 cfg0.N = tokens a.du := arr_du T
theorem res_h : (dats m 0 c).arrAt 12 cfg0.N = tokens a.h := arr_h T
theorem res_dscale : (dats m 0 c).arrAt 13 cfg0.N = lanes a.dscale := arr_dscale T
theorem res_dg : (dats m 0 c).arrAt 14 cfg0.N = lanes a.dg := arr_dg T

omit T

set_option maxHeartbeats 4000000 in
theorem kernel_run (m : (ℓ : Loc nD τ sig) → Buf (Elt Ideal) ℓ) (ρ : Dev nD → PrngReg) (a : Dev nD → Arrays) (T : ∀ c, Reads m c (a c)) :
    θ_run defs (onTc (τ := τ) (main (F := Ideal))) ⟨m, fun _ => 0, ρ⟩ fun r => ∀ c : Dev nD,
      (r.2.mem (c.tc.loc main_v94_0) = tokens (a c).dx ∧ r.2.mem (c.tc.loc main_v94_1) = tokens (a c).z
      ∧ r.2.mem (c.tc.loc main_v94_2) = tokens (a c).dzpre ∧ r.2.mem (c.tc.loc main_v94_3) = tokens (a c).du
      ∧ r.2.mem (c.tc.loc main_v94_4) = tokens (a c).h ∧ r.2.mem (c.tc.loc main_v94_5) = lanes (a c).dscale
      ∧ r.2.mem (c.tc.loc main_v94_6) = lanes (a c).dg)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) :=
  (θ_run _ _ _).mono (fun r h c => by
    obtain ⟨h0, h1, h2, h3, h4, h5, h6, hk⟩ := h c
    rw [res_dx (T c)] at h0
    rw [res_z (T c)] at h1
    rw [res_dzpre (T c)] at h2
    rw [res_du (T c)] at h3
    rw [res_h (T c)] at h4
    rw [res_dscale (T c)] at h5
    rw [res_dg (T c)] at h6
    exact ⟨⟨h0, h1, h2, h3, h4, h5, h6⟩, hk⟩) (Cert.KernelIdeal.Value.run_blocks m ρ)

end

section
open Cert.ReferenceIdeal Cert.ReferenceIdeal.Gen Cert.ReferenceIdeal.Read

/-- The reference's arguments as the specification's arrays. -/
def refArr (m : (ℓ : Loc nD τ sig) → Buf (Elt Ideal) ℓ) (c : Dev nD) : Arrays := Ref.arr (m (c.tc.loc main_arg0)) (m (c.tc.loc main_arg1))
  (m (c.tc.loc main_arg2)) (m (c.tc.loc main_arg3)) (m (c.tc.loc main_arg4)) (m (c.tc.loc main_arg5)) (m (c.tc.loc main_arg6))

theorem same_args {m : (ℓ : Loc Cert.KernelIdeal.nD Cert.KernelIdeal.τ Cert.KernelIdeal.sig) → Buf (Elt Ideal) ℓ} {m' : (ℓ : Loc nD τ sig) → Buf (Elt Ideal) ℓ} {c : Dev nD}
    (h : m' (c.tc.loc main_arg0) = m (c.tc.loc Cert.KernelIdeal.main_arg0) ∧ m' (c.tc.loc main_arg1) = m (c.tc.loc Cert.KernelIdeal.main_arg1)
      ∧ m' (c.tc.loc main_arg2) = m (c.tc.loc Cert.KernelIdeal.main_arg2) ∧ m' (c.tc.loc main_arg3) = m (c.tc.loc Cert.KernelIdeal.main_arg3)
      ∧ m' (c.tc.loc main_arg4) = m (c.tc.loc Cert.KernelIdeal.main_arg4) ∧ m' (c.tc.loc main_arg5) = m (c.tc.loc Cert.KernelIdeal.main_arg5)
      ∧ m' (c.tc.loc main_arg6) = m (c.tc.loc Cert.KernelIdeal.main_arg6)) : refArr m' c = argArr m c := by
  obtain ⟨e0, e1, e2, e3, e4, e5, e6⟩ := h
  rw [refArr, e0, e1, e2, e3, e4, e5, e6, argArr]

theorem reference_run (m : (ℓ : Loc nD τ sig) → Buf (Elt Ideal) ℓ) (ρ : Dev nD → PrngReg) (ha : ∀ c, (refArr m c).Real) :
    θ_run defs (onTc (τ := τ) (main (F := Ideal))) ⟨m, fun _ => 0, ρ⟩ fun r => ∀ c : Dev nD,
      (r.2.mem (c.tc.loc main_v197) = tokens (refArr m c).dx ∧ r.2.mem (c.tc.loc main_v198) = tokens (refArr m c).z
      ∧ r.2.mem (c.tc.loc main_v199) = tokens (refArr m c).dzpre ∧ r.2.mem (c.tc.loc main_v200) = tokens (refArr m c).du
      ∧ r.2.mem (c.tc.loc main_v201) = tokens (refArr m c).h ∧ r.2.mem (c.tc.loc main_v105) = lanes (refArr m c).dscale
      ∧ r.2.mem (c.tc.loc main_v180) = lanes (refArr m c).dg)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) :=
  (θ_run _ _ _).mono (fun r h c => by
    obtain ⟨h0, h1, h2, h3, h4, h5, h6, hk⟩ := h c
    refine ⟨⟨h0.trans ((val_main_v197_eq _).trans (eq_tokens fun s j => Ref.dx _ _ _ _ _ _ _ (ha c) s j)),
      h1.trans ((val_main_v198_eq _).trans (eq_tokens fun s j => Ref.z _ _ _ _ _ _ _ s j)),
      h2.trans ((val_main_v199_eq _).trans (eq_tokens fun s j => Ref.dzpre _ _ _ _ _ _ _ s j)),
      h3.trans ((val_main_v200_eq _).trans (eq_tokens fun s j => Ref.du _ _ _ _ _ _ _ (ha c) s j)),
      h4.trans ((val_main_v201_eq _).trans (eq_tokens fun s j => Ref.h _ _ _ _ _ _ _ s j)),
      h5.trans ((val_main_v105_eq _).trans (eq_lanes fun j => Ref.dscale _ _ _ _ _ _ _ j)),
      h6.trans ((val_main_v180_eq _).trans (eq_lanes fun j => Ref.dg _ _ _ _ _ _ _ (ha c) j))⟩, hk⟩) (Cert.ReferenceIdeal.Value.run m ρ)

end

end Cert.Proof

end
-- ==== Proof.Finite.lean ====
/- The precondition read back: every entry of the seven arguments is a real number. -/
module

public import proofs.«01_k».proof.Pre_pool_finite
public import proofs.«01_k».proof.Proof.Ref
public import Idealize.ShloMosaic.Lib.ReduceAll

@[expose] public section

set_option maxRecDepth 16384

noncomputable section

namespace Cert.Proof

open Idealize.ShloMosaic Idealize.ShloMosaic.Pointwise Cert.Pre_pool_finite

instance : Subsingleton S_.Idx := ⟨fun _ _ => funext fun k => k.elim0⟩

/-- An entry between the two infinities is a real number. -/
theorem isR_of_between {s : Shape} {x lo hi : FVec Ideal s .f32} (hlo : ∀ i, lo i = (⊥ : EReal)) (hhi : ∀ i, hi i = (⊤ : EReal)) {i : s.Idx}
    (h : andi (cmpf .ogt x lo) (cmpf .olt x hi) i = 1#1) : IsR (x i) := by
  obtain ⟨h1, h2⟩ := IntOp.andi_eq_one.1 h
  replace h1 : BitVec.ofBool (decide ((lo i : EReal) < x i)) = 1#1 := h1
  replace h2 : BitVec.ofBool (decide ((x i : EReal) < hi i)) = 1#1 := h2
  rw [hlo] at h1
  rw [hhi] at h2
  refine isR_of_ne (fun e => ?_) (fun e => ?_)
  · rw [e] at h2
    simp at h2
  · rw [e] at h1
    simp at h1

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

variable [Cert.Pre_pool_finite.Facts]

theorem real_of_finite (x0 x1 : FVec Ideal S8192x1024 .f32) (x2 : FVec Ideal S1x1024 .f32) (x3 : FVec Ideal S1024x1024 .f32)
    (x4 : FVec Ideal S4x256x256 .f32) (x5 : FVec Ideal S1x1024 .f32) (x6 : FVec Ideal S1024x1024 .f32)
    (h : fn x0 x1 x2 x3 x4 x5 x6 = fun _ => 1#1) : (Ref.arr x0 x1 x2 x3 x4 x5 x6).Real := by
  replace h := congrFun h (fun k => k.elim0)
  dsimp only [fn, fn_part1, fn_part2] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have lo : ∀ {s : Shape} {b} (i : s.Idx), broadcastInDim s ![] b (constant (F := Ideal) S_ .f32 0xFF800000#32) i = (⊥ : EReal) := fun _ => neg_inf
  have hi : ∀ {s : Shape} {b} (i : s.Idx), broadcastInDim s ![] b (constant (F := Ideal) S_ .f32 0x7F800000#32) i = (⊤ : EReal) := fun _ => pos_inf
  exact {
    dx1 := fun s j => isR_of_between lo hi (Host.reduce_andi_all _ _ _ _ _ h0 (ix2 s j))
    x0 := fun s j => isR_of_between lo hi (Host.reduce_andi_all _ _ _ _ _ h1 (ix2 s j))
    g0 := fun j => isR_of_between lo hi (Host.reduce_andi_all _ _ _ _ _ h2 (ix2 0 j))
    win := fun i j => isR_of_between lo hi (Host.reduce_andi_all _ _ _ _ _ h3 (ix2 i j))
    wgrp := fun g i j => isR_of_between lo hi (Host.reduce_andi_all _ _ _ _ _ h4 (ix3 g i j))
    scale := fun j => isR_of_between lo hi (Host.reduce_andi_all _ _ _ _ _ h5 (ix2 0 j))
    wout := fun i j => isR_of_between lo hi (Host.reduce_andi_all _ _ _ _ _ h6 (ix2 i j)) }

end Cert.Proof

end
-- ==== Proof.BwdBody.lean ====
/- One grid step of the swiglu's backward kernel, over any floats: what its buffers hold after it. The step at the first half of the
   hidden columns sets the tile's normed rows, its cast gradient and the accumulator; the one at the second half reads the
   last two and writes the gradient of the rows. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Proof.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The step's input blocks. -/
structure Ins (F : FTy → Type) where
  dxo : Vec F S512x1024 .f32
  x : Vec F S512x1024 .f32
  g : Vec F S1x1024 .f32
  a : Vec F S512x1408 .bf16
  b : Vec F S512x1408 .bf16
  gate : Vec F S1408x1024 .bf16
  up : Vec F S1408x1024 .bf16
  down : Vec F S1408x1024 .bf16

namespace Ins

variable (I : Ins F)

def h : Vec F S512x1024 .bf16 := k0_pay7 I.x I.g
def dy : Vec F S512x1024 .bf16 := k0_pay8 I.dxo
/-- The gradients of the activations, from the cast gradient `Y`, -/
def da (Y : Vec F S512x1024 .bf16) : Vec F S512x1408 .bf16 := k0_pay14 Y I.down I.a I.b
def db (Y : Vec F S512x1024 .bf16) : Vec F S512x1408 .bf16 := k0_pay13 Y I.down I.a
/-- what they add to the accumulator `A`, -/
def dh (Y : Vec F S512x1024 .bf16) (A : Vec F S512x1024 .f32) : Vec F S512x1024 .f32 := k0_pay1 (I.db Y) (I.da Y) A I.gate I.up
/-- and the norm's gradients from the accumulated `H`. -/
def dx (H : Vec F S512x1024 .f32) : Vec F S512x1024 .f32 := k0_pay4 I.x I.g H I.dxo
def dg (H : Vec F S512x1024 .f32) (G : Vec F S1x1024 .f32) : Vec F S1x1024 .f32 := k0_pay5 I.x H G

end Ins

/-- A buffer stored whole holds what was stored last. -/
theorem read_stored {κ : Kind} {sp : Space} {S : Shape} {e : EltTy} (v : View sig κ sp S e) (f : v.ty.Contents (Elt F))
    {off : Fin S.rank → Nat} (inb : ∀ a, off a + S.size a ≤ S.size a) (w : S.Idx → Elt F e) (L : List (View.Piece (Elt F) S e))
    (h : ∀ a, off a = 0) : v.read (Elt F) (v.writes (Elt F) f (⟨Rect.unit off S.size inb, w⟩ :: L)) = w := by
  refine (View.read_writes_eq_canon v f _ fun y => ⟨_, List.mem_cons_self, ?_⟩).trans (View.canon_cons_unit_lit inb w L h)
  obtain rfl : off = fun _ => 0 := funext h
  show y ∈ (Rect.whole S).set
  rw [Rect.set_whole]
  exact Finset.mem_univ y

section
variable (c : Dev nD) (i : grid0.Coords) (arg2 : Memref sig .tc .vmem S512x1024 .f32) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1408 .bf16) (harg5 : arg5.IsWhole) (arg6 : Memref sig .tc .vmem S512x1408 .bf16) (harg6 : arg6.IsWhole)
  (arg7 : Memref sig .tc .vmem S1408x1024 .bf16) (harg7 : arg7.IsWhole) (arg8 : Memref sig .tc .vmem S1408x1024 .bf16) (harg8 : arg8.IsWhole)
  (arg9 : Memref sig .tc .vmem S1408x1024 .bf16) (harg9 : arg9.IsWhole) (arg10 : Memref sig .tc .vmem S512x1024 .f32) (harg10 : arg10.IsWhole)
  (arg11 : Memref sig .tc .vmem S512x1408 .bf16) (harg11 : arg11.IsWhole) (arg12 : Memref sig .tc .vmem S512x1408 .bf16) (harg12 : arg12.IsWhole)
  (arg13 : Memref sig .tc .vmem S512x1024 .bf16) (harg13 : arg13.IsWhole) (arg14 : Memref sig .tc .vmem S512x1024 .bf16) (harg14 : arg14.IsWhole)
  (arg15 : Memref sig .tc .vmem S1x1024 .f32) (harg15 : arg15.IsWhole) (arg16 : Memref sig .tc .vmem S512x1024 .f32) (harg16 : arg16.IsWhole)
  (I : Ins F)

/-- The input buffers at their blocks. -/
def insAt : sProp 𝕄 := iprop(owns (c : Thread nD τ) arg2 fullShare I.dxo ∗ owns (c : Thread nD τ) arg3 fullShare I.x
  ∗ owns (c : Thread nD τ) arg4 fullShare I.g ∗ owns (c : Thread nD τ) arg5 fullShare I.a ∗ owns (c : Thread nD τ) arg6 fullShare I.b
  ∗ owns (c : Thread nD τ) arg7 fullShare I.gate ∗ owns (c : Thread nD τ) arg8 fullShare I.up ∗ owns (c : Thread nD τ) arg9 fullShare I.down)

/-- The output buffers and the accumulator, at some contents each. -/
def outsAt (dx : Vec F S512x1024 .f32) (da db : Vec F S512x1408 .bf16) (h dy : Vec F S512x1024 .bf16) (dg : Vec F S1x1024 .f32)
    (dh : Vec F S512x1024 .f32) : sProp 𝕄 := iprop(owns (c : Thread nD τ) arg10 fullShare dx ∗ owns (c : Thread nD τ) arg11 fullShare da
  ∗ owns (c : Thread nD τ) arg12 fullShare db ∗ owns (c : Thread nD τ) arg13 fullShare h ∗ owns (c : Thread nD τ) arg14 fullShare dy
  ∗ owns (c : Thread nD τ) arg15 fullShare dg ∗ owns (c : Thread nD τ) arg16 fullShare dh)

set_option maxHeartbeats 4000000 in
/-- At the first half: everything set but the rows' gradient, and the norm weight's gradient set to zero at the first tile. -/
theorem body_first (h2 : k0_cond2 i = 1#1) (h3 : ¬ k0_cond3 i = 1#1) (dx : Vec F S512x1024 .f32) (da db : Vec F S512x1408 .bf16)
    (h dy : Vec F S512x1024 .bf16) (dg : Vec F S1x1024 .f32) (dh : Vec F S512x1024 .f32) (E : Set ℕ) (K : PUnit → sProp 𝕄) :
    iprop(insAt c arg2 arg3 arg4 arg5 arg6 arg7 arg8 arg9 I ∗ outsAt c arg10 arg11 arg12 arg13 arg14 arg15 arg16 dx da db h dy dg dh
      ∗ (iprop(insAt c arg2 arg3 arg4 arg5 arg6 arg7 arg8 arg9 I ∗ outsAt c arg10 arg11 arg12 arg13 arg14 arg15 arg16 dx (I.da I.dy) (I.db I.dy)
        I.h I.dy (if k0_cond1 i = 1#1 then k0_pay6 else dg) (I.dh I.dy k0_pay9)) -∗ K ⟨⟩))
    ⊢ wp frame (wpE (defs₀ (F := F)) Variants.none c none) E (cc0_ffn_bwd i arg2 harg2 arg3 harg3 arg4 harg4 arg5 harg5 arg6 harg6 arg7
      harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  simp only [k0_part1_eq_skeleton]
  unfold insAt outsAt owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩,
    ⟨⟨%f10, %e10, H10⟩, ⟨%f11, -, H11⟩, ⟨%f12, -, H12⟩, ⟨%f13, -, H13⟩, ⟨%f14, -, H14⟩, ⟨%f15, %e15, H15⟩, ⟨%f16, -, H16⟩⟩, Hk⟩
  obtain rfl := harg2.eq_unread e2; obtain rfl := harg3.eq_unread e3; obtain rfl := harg4.eq_unread e4; obtain rfl := harg5.eq_unread e5
  obtain rfl := harg6.eq_unread e6; obtain rfl := harg7.eq_unread e7; obtain rfl := harg8.eq_unread e8; obtain rfl := harg9.eq_unread e9
  obtain rfl := harg10.eq_unread e10; obtain rfl := harg15.eq_unread e15
  by_cases h1 : k0_cond1 i = 1#1
  all_goals
    first | rw [if_pos h1] | rw [if_neg h1]
    sl_exec (disch := first | sl_exact h1 | sl_exact h2 | sl_exact h3)
    sl_step
    iapply Hk
    isplitl [H2 H3 H4 H5 H6 H7 H8 H9]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      iexists _; isplitr; · ipureintro; exact harg9.read_unread _
      iexact H9
    isplitl [H10]
    · iexists _; isplitr; · ipureintro; exact harg10.read_unread _
      iexact H10
    isplitl [H11]
    · iexists _; isplitr
      swap; · iexact H11
      ipureintro
      refine (read_stored _ _ _ _ _ (by decide)).trans ?_
      frame_out
      rfl
    isplitl [H12]
    · iexists _; isplitr
      swap; · iexact H12
      ipureintro
      refine (read_stored _ _ _ _ _ (by decide)).trans ?_
      frame_out
      rfl
    isplitl [H13]
    · iexists _; isplitr
      swap; · iexact H13
      ipureintro
      refine (read_stored _ _ _ _ _ (by decide)).trans ?_
      frame_out
      rfl
    isplitl [H14]
    · iexists _; isplitr
      swap; · iexact H14
      ipureintro
      refine (read_stored _ _ _ _ _ (by decide)).trans ?_
      frame_out
      rfl
    isplitl [H15]
    · iexists _; isplitr
      swap; · iexact H15
      ipureintro
      first | (have set : k0_cond1 i = 1#1 := h1; exact read_stored _ _ _ _ _ (by decide)) | exact harg15.read_unread _
    iexists _; isplitr
    swap; · iexact H16
    ipureintro
    refine (read_stored _ _ _ _ _ (by decide)).trans ?_
    frame_out
    rfl

set_option maxHeartbeats 1000000 in
/-- At the second half: the accumulator added to, and both of the norm's gradients; the normed rows and the cast gradient are left. -/
theorem body_last (h1 : ¬ k0_cond1 i = 1#1) (h2 : ¬ k0_cond2 i = 1#1) (h3 : k0_cond3 i = 1#1) (dx : Vec F S512x1024 .f32) (da db : Vec F S512x1408 .bf16)
    (h dy : Vec F S512x1024 .bf16) (dg : Vec F S1x1024 .f32) (dh : Vec F S512x1024 .f32) (E : Set ℕ) (K : PUnit → sProp 𝕄) :
    iprop(insAt c arg2 arg3 arg4 arg5 arg6 arg7 arg8 arg9 I ∗ outsAt c arg10 arg11 arg12 arg13 arg14 arg15 arg16 dx da db h dy dg dh
      ∗ (iprop(insAt c arg2 arg3 arg4 arg5 arg6 arg7 arg8 arg9 I ∗ outsAt c arg10 arg11 arg12 arg13 arg14 arg15 arg16 (I.dx (I.dh dy dh)) (I.da dy)
        (I.db dy) h dy (I.dg (I.dh dy dh) dg) (I.dh dy dh)) -∗ K ⟨⟩))
    ⊢ wp frame (wpE (defs₀ (F := F)) Variants.none c none) E (cc0_ffn_bwd i arg2 harg2 arg3 harg3 arg4 harg4 arg5 harg5 arg6 harg6 arg7
      harg7 arg8 harg8 arg9 harg9 arg10 harg10 arg11 harg11 arg12 harg12 arg13 harg13 arg14 harg14 arg15 harg15 arg16 harg16) K := by
  simp only [cc0_ffn_bwd_eq_skeleton]; unfold cc0_ffn_bwd_skel
  simp only [k0_part1_eq_skeleton]
  unfold insAt outsAt owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩,
    ⟨⟨%f10, -, H10⟩, ⟨%f11, -, H11⟩, ⟨%f12, -, H12⟩, ⟨%f13, %e13, H13⟩, ⟨%f14, %e14, H14⟩, ⟨%f15, %e15, H15⟩, ⟨%f16, %e16, H16⟩⟩, Hk⟩
  obtain rfl := harg2.eq_unread e2; obtain rfl := harg3.eq_unread e3; obtain rfl := harg4.eq_unread e4; obtain rfl := harg5.eq_unread e5
  obtain rfl := harg6.eq_unread e6; obtain rfl := harg7.eq_unread e7; obtain rfl := harg8.eq_unread e8; obtain rfl := harg9.eq_unread e9
  obtain rfl := harg13.eq_unread e13; obtain rfl := harg14.eq_unread e14; obtain rfl := harg15.eq_unread e15; obtain rfl := harg16.eq_unread e16
  sl_exec (disch := first | sl_exact h1 | sl_exact h2 | sl_exact h3)
  sl_step
  iapply Hk
  isplitl [H2 H3 H4 H5 H6 H7 H8 H9]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9
  isplitl [H10]
  · iexists _; isplitr
    swap; · iexact H10
    ipureintro
    refine (read_stored _ _ _ _ _ (by decide)).trans ?_
    frame_out
    rfl
  isplitl [H11]
  · iexists _; isplitr
    swap; · iexact H11
    ipureintro
    refine (read_stored _ _ _ _ _ (by decide)).trans ?_
    frame_out
    rfl
  isplitl [H12]
  · iexists _; isplitr
    swap; · iexact H12
    ipureintro
    refine (read_stored _ _ _ _ _ (by decide)).trans ?_
    frame_out
    rfl
  isplitl [H13]
  · iexists _; isplitr; · ipureintro; exact harg13.read_unread _
    iexact H13
  isplitl [H14]
  · iexists _; isplitr; · ipureintro; exact harg14.read_unread _
    iexact H14
  isplitl [H15]
  · iexists _; isplitr
    swap; · iexact H15
    ipureintro
    refine (read_stored _ _ _ _ _ (by decide)).trans ?_
    frame_out
    rfl
  iexists _; isplitr
  swap; · iexact H16
  ipureintro
  refine (read_stored _ _ _ _ _ (by decide)).trans ?_
  frame_out
  rfl

end

end Cert.Proof.Bwd
-- ==== Proof.BwdFrame.lean ====
/- The swiglu's backward kernel as a whole, over any floats: what its buffers hold after every grid step, and that the launch
   ends with its arrays at what those steps wrote, its arguments as they were and every counter at zero. Two of the outputs, the normed
   rows and the cast gradient, are set at a tile's first step and written back after its second, which leaves them alone. -/
module

public import proofs.«01_k».proof.Proof.BwdBody

@[expose] public section

set_option maxRecDepth 16384

noncomputable section

namespace Cert.Proof.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The host's lines -/

/-- Core `c`'s buffers when the launch begins: after the host's operations. -/
abbrev V (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes none of the arguments. -/
theorem V_of_not_written (b : Ref sig .tc) (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem V_arg (b : Ref sig .tc) (hb : b ∈ [main_arg0, main_arg1, main_arg2, main_arg3, main_arg4, main_arg5]) :
    V m c b = m ((c : Thread nD τ).loc b) := by
  refine V_of_not_written m c b ?_
  simp only [List.mem_cons, List.not_mem_nil, or_false] at hb
  rcases hb with rfl | rfl | rfl | rfl | rfl | rfl
  all_goals
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)

/-- Window `w`'s block at point `t`, read off its array as the launch finds it. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the points leave -/

def ins (t : Fin cfg0.N) : Ins F := ⟨iblk m c 0 t, iblk m c 1 t, iblk m c 2 t, iblk m c 3 t, iblk m c 4 t, iblk m c 5 t, iblk m c 6 t, iblk m c 7 t⟩

/-- The outputs' buffers and the accumulator. -/
structure Outs (F : FTy → Type) where
  dx : Vec F S512x1024 .f32
  da : Vec F S512x1408 .bf16
  db : Vec F S512x1408 .bf16
  h : Vec F S512x1024 .bf16
  dy : Vec F S512x1024 .bf16
  dg : Vec F S1x1024 .f32
  dh : Vec F S512x1024 .f32

/-- After a tile's first step, over the norm weight's gradient `dg` so far (the rows' gradient is not yet there), -/
def Ins.first (I : Ins F) (dg : Vec F S1x1024 .f32) : Outs F := ⟨k0_pay9, I.da I.dy, I.db I.dy, I.h, I.dy, dg, I.dh I.dy k0_pay9⟩

/-- and after its second, over what the first left. -/
def Ins.last (I : Ins F) (o : Outs F) : Outs F :=
  ⟨I.dx (I.dh o.dy o.dh), I.da o.dy, I.db o.dy, o.h, o.dy, I.dg (I.dh o.dy o.dh) o.dg, I.dh o.dy o.dh⟩

def left : (n : ℕ) → n < cfg0.N → Outs F
  | 0, hn => (ins m c ⟨0, hn⟩).first k0_pay6
  | n + 1, hn => if (n + 1) % 2 = 0 then (ins m c ⟨n + 1, hn⟩).first (left n (Nat.lt_of_succ_lt hn)).dg
    else (ins m c ⟨n + 1, hn⟩).last (left n (Nat.lt_of_succ_lt hn))

abbrev leftAt (t : Fin cfg0.N) : Outs F := left m c t.val t.isLt
/-- What the point before left. -/
abbrev leftBy (t : Fin cfg0.N) : Outs F := left m c (t.val - 1) (Nat.lt_of_le_of_lt (Nat.sub_le _ _) t.isLt)

theorem leftAt_zero (t : Fin cfg0.N) (h : t.val = 0) : leftAt m c t = (ins m c t).first k0_pay6 := by
  obtain ⟨n, hn⟩ := t
  obtain rfl : n = 0 := h
  rfl

theorem leftAt_even (t : Fin cfg0.N) (h : t.val % 2 = 0) (hz : t.val ≠ 0) : leftAt m c t = (ins m c t).first (leftBy m c t).dg := by
  obtain ⟨n, hn⟩ := t
  cases n with
  | zero => exact absurd rfl hz
  | succ n => exact if_pos h

theorem leftAt_odd (t : Fin cfg0.N) (h : t.val % 2 = 1) : leftAt m c t = (ins m c t).last (leftBy m c t) := by
  obtain ⟨n, hn⟩ := t
  cases n with
  | zero => exact absurd h (by show ¬ 0 % 2 = 1; omega)
  | succ n => exact if_neg (by show ¬ (n + 1) % 2 = 0; have : (n + 1) % 2 = 1 := h; omega)

/-- Of whatever the weight's gradient is, -/
theorem leftAt_first (t : Fin cfg0.N) (h : t.val % 2 = 0) : ∃ dg, leftAt m c t = (ins m c t).first dg := by
  by_cases hz : t.val = 0
  · exact ⟨_, leftAt_zero m c t hz⟩
  · exact ⟨_, leftAt_even m c t h hz⟩

/-! ## The pipeline's proof data -/

abbrev scM : Memref sig .tc .vmem S512x1024 .f32 := Memref.whole cc0_scratch0

theorem start_eq : (Pipeline.ΦA spec0 c : sProp 𝕄) = iprop((∃ d, owns (c : Thread nD τ) scM fullShare d) ∗ (∃ r, prngReg c r)) := by
  unfold Pipeline.ΦA; rw [scopedRest0_eq]; simp only [scM, owns_whole]; rfl

/-- Before point `n`: the accumulator at what the point before left, and the generator's register. -/
def Acc : (n : ℕ) → n ≤ cfg0.N → sProp 𝕄
  | 0, _ => Pipeline.ΦA spec0 c
  | n + 1, hn => iprop(owns (c : Thread nD τ) scM fullShare (left m c n hn).dh ∗ (∃ r, prngReg c r))

theorem Acc_pos (n : ℕ) (h : n ≤ cfg0.N) (hz : n ≠ 0) :
    Acc m c n h = iprop(owns (c : Thread nD τ) scM fullShare (left m c (n - 1) (by omega)).dh ∗ (∃ r, prngReg c r)) := by
  cases n with
  | zero => exact absurd rfl hz
  | succ n => rfl

/-- At any point the accumulator holds something. -/
theorem Acc_open (n : ℕ) (h : n ≤ cfg0.N) : Acc m c n h ⊢ (iprop((∃ d, owns (c : Thread nD τ) scM fullShare d) ∗ (∃ r, prngReg c r)) : sProp 𝕄) := by
  cases n with
  | zero => rw [show Acc m c 0 h = Pipeline.ΦA spec0 c from rfl, start_eq]
  | succ n =>
    rw [Acc_pos m c _ h (Nat.succ_ne_zero n)]
    iintro ⟨HS, Hg⟩
    isplitl [HS]; · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (leftAt m c t).dx
    | ⟨9, _⟩ => (leftAt m c t).da
    | ⟨10, _⟩ => (leftAt m c t).db
    | ⟨11, _⟩ => (leftAt m c t).h
    | ⟨12, _⟩ => (leftAt m c t).dy
    | ⟨13, _⟩ => (leftAt m c t).dg
  Φ t := Acc m c t.val (Nat.le_of_lt_succ t.isLt)
  q _ := fullShare
  owed _ := 0

theorem A_eq (w : Fin cfg0.W) : (dats m 0 c).A w = V m c (Pipeline.arrRef spec0 w) := by
  dsimp only [dats]

theorem Φ_castSucc (t : Fin cfg0.N) : (dats m 0 c).Φ t.castSucc = Acc m c t.val (Nat.le_of_lt t.isLt) := by
  dsimp only [dats]; exact Pipeline.Dat.Φ_castSucc (Acc m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = (leftAt m c t).dx := by dsimp only [dats]
theorem after_9 (t : Fin cfg0.N) : (dats m 0 c).after 9 t = (leftAt m c t).da := by dsimp only [dats]
theorem after_10 (t : Fin cfg0.N) : (dats m 0 c).after 10 t = (leftAt m c t).db := by dsimp only [dats]
theorem after_11 (t : Fin cfg0.N) : (dats m 0 c).after 11 t = (leftAt m c t).h := by dsimp only [dats]
theorem after_12 (t : Fin cfg0.N) : (dats m 0 c).after 12 t = (leftAt m c t).dy := by dsimp only [dats]
theorem after_13 (t : Fin cfg0.N) : (dats m 0 c).after 13 t = (leftAt m c t).dg := by dsimp only [dats]

/-! Each input's buffer holds its block at every point, fetched there or not. -/

theorem before_0 (t : Fin cfg0.N) (d) : (dats m 0 c).before 0 t d = iblk m c 0 t :=
  (Dat.before_in_eq_fetched _ 0 rfl (fun _ => rfl) (fun _ _ _ => rfl) (fun t => by rw [after_0]; rfl) t d).trans rfl
theorem before_1 (t : Fin cfg0.N) (d) : (dats m 0 c).before 1 t d = iblk m c 1 t :=
  (Dat.before_in_eq_fetched _ 1 rfl (fun _ => rfl) (fun _ _ _ => rfl) (fun t => by rw [after_1]; rfl) t d).trans rfl
theorem before_2 (t : Fin cfg0.N) (d) : (dats m 0 c).before 2 t d = iblk m c 2 t :=
  (Dat.before_in_eq_fetched _ 2 rfl (fun _ => rfl) (fun _ _ _ => rfl) (fun t => by rw [after_2]; rfl) t d).trans rfl
theorem before_3 (t : Fin cfg0.N) (d) : (dats m 0 c).before 3 t d = iblk m c 3 t :=
  (Dat.before_in_eq_fetched _ 3 rfl (fun _ => rfl) (fun _ _ _ => rfl) (fun t => by rw [after_3]; rfl) t d).trans rfl
theorem before_4 (t : Fin cfg0.N) (d) : (dats m 0 c).before 4 t d = iblk m c 4 t :=
  (Dat.before_in_eq_fetched _ 4 rfl (fun _ => rfl) (fun _ _ _ => rfl) (fun t => by rw [after_4]; rfl) t d).trans rfl
theorem before_5 (t : Fin cfg0.N) (d) : (dats m 0 c).before 5 t d = iblk m c 5 t :=
  (Dat.before_in_eq_fetched _ 5 rfl (fun _ => rfl) (fun _ _ _ => rfl) (fun t => by rw [after_5]; rfl) t d).trans rfl
theorem before_6 (t : Fin cfg0.N) (d) : (dats m 0 c).before 6 t d = iblk m c 6 t :=
  (Dat.before_in_eq_fetched _ 6 rfl (fun _ => rfl) (fun _ _ _ => rfl) (fun t => by rw [after_6]; rfl) t d).trans rfl
theorem before_7 (t : Fin cfg0.N) (d) : (dats m 0 c).before 7 t d = iblk m c 7 t :=
  (Dat.before_in_eq_fetched _ 7 rfl (fun _ => rfl) (fun _ _ _ => rfl) (fun t => by rw [after_7]; rfl) t d).trans rfl

/-! ## Which points leave which windows alone -/

theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 2 = 0 := by decide +kernel
theorem cond3_iff : ∀ t : Fin cfg0.N, k0_cond3 (grid0.coords t) = 1#1 ↔ t.val % 2 = 1 := by decide +kernel

theorem idle_8 : ∀ t : Fin cfg0.N, cfg0.idle 8 (cfg0.grid.coords t) = decide (t.val % 2 = 0) := by decide +kernel
theorem idle_11 : ∀ t : Fin cfg0.N, cfg0.idle 11 (cfg0.grid.coords t) = decide (t.val % 2 = 1) := by decide +kernel
theorem idle_12 : ∀ t : Fin cfg0.N, cfg0.idle 12 (cfg0.grid.coords t) = decide (t.val % 2 = 1) := by decide +kernel
theorem idle_13 : ∀ t : Fin cfg0.N, cfg0.idle 13 (cfg0.grid.coords t) = decide (t.val % 2 = 0 ∧ t.val ≠ 0) := by decide +kernel

theorem flush_8 (t : Fin cfg0.N) (h : t.val % 2 = 0) : (cfg0.win 8).flush t = false := by
  rw [← Bool.not_eq_true, flush0_8]; omega
theorem flush_11 (t : Fin cfg0.N) (h : t.val % 2 = 0) : (cfg0.win 11).flush t = false := by
  rw [← Bool.not_eq_true, flush0_11]; omega
theorem flush_12 (t : Fin cfg0.N) (h : t.val % 2 = 0) : (cfg0.win 12).flush t = false := by
  rw [← Bool.not_eq_true, flush0_12]; omega
theorem flush_13 (t : Fin cfg0.N) (h : t.val ≠ 31) : (cfg0.win 13).flush t = false := by
  have := lt_of_lt_of_eq t.isLt (show cfg0.N = 32 from N_0)
  rw [← Bool.not_eq_true, flush0_13]; omega

/-- At a point the body works on, or at one a block it leaves alone is written back, a window ends at the point's contents. -/
theorem leaves_after (w : Fin cfg0.W) (t : Fin cfg0.N) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

/-! ## What the outputs' buffers hold at a point the body reads them at -/

/-- The point before. -/
abbrev prev (t : Fin cfg0.N) : Fin cfg0.N := ⟨t.val - 1, Nat.lt_of_le_of_lt (Nat.sub_le _ _) t.isLt⟩

theorem before_11 (t : Fin cfg0.N) (h : t.val % 2 = 1) (d) : (dats m 0 c).before 11 t d = (leftBy m c t).h := by
  rw [Dat.before_of_pos _ 11 t (by omega) rfl, flush_11 (prev t) (by show (t.val - 1) % 2 = 0; omega)]
  unfold Dat.left
  rw [idle_11 (prev t), decide_eq_false (by show ¬ (t.val - 1) % 2 = 1; omega)]
  exact after_11 m c (prev t)

theorem before_12 (t : Fin cfg0.N) (h : t.val % 2 = 1) (d) : (dats m 0 c).before 12 t d = (leftBy m c t).dy := by
  rw [Dat.before_of_pos _ 12 t (by omega) rfl, flush_12 (prev t) (by show (t.val - 1) % 2 = 0; omega)]
  unfold Dat.left
  rw [idle_12 (prev t), decide_eq_false (by show ¬ (t.val - 1) % 2 = 1; omega)]
  exact after_12 m c (prev t)

/-- The norm weight's gradient, past the first point, is at what the point before left. -/
theorem before_13 (t : Fin cfg0.N) (hz : t.val ≠ 0) (d) : (dats m 0 c).before 13 t d = (leftBy m c t).dg := by
  have hN := lt_of_lt_of_eq t.isLt (show cfg0.N = 32 from N_0)
  -- at a point that works on it
  have live : ∀ t : Fin cfg0.N, t.val ≠ 0 → ¬ ((t.val - 1) % 2 = 0 ∧ t.val - 1 ≠ 0) →
      (dats m 0 c).before 13 t d = (leftBy m c t).dg := fun t hz h => by
    have hN := lt_of_lt_of_eq t.isLt (show cfg0.N = 32 from N_0)
    rw [Dat.before_of_pos _ 13 t hz rfl, flush_13 (prev t) (by show t.val - 1 ≠ 31; omega)]
    unfold Dat.left
    rw [idle_13 (prev t), decide_eq_false h]
    exact after_13 m c (prev t)
  by_cases h : (t.val - 1) % 2 = 0 ∧ t.val - 1 ≠ 0
  · rw [Dat.before_of_pos _ 13 t hz rfl, flush_13 (prev t) (by show t.val - 1 ≠ 31; omega)]
    unfold Dat.left
    rw [idle_13 (prev t), decide_eq_true h]
    refine (live (prev t) h.2 (by show ¬ ((t.val - 1 - 1) % 2 = 0 ∧ t.val - 1 - 1 ≠ 0); omega)).trans ?_
    exact (congrArg Outs.dg (leftAt_even m c (prev t) h.1 h.2)).symm
  · exact live t hz h

/-! ## The body at a point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev ms13 (t : Fin cfg0.N) := win0_13.stage (cfg0.slots t 13)

def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- A tile's first step leaves the norm weight's gradient at zero if it is the first of all, and alone otherwise. -/
theorem leaves_dg (t : Fin cfg0.N) (h : t.val % 2 = 0) (d) :
    owns (c : Thread nD τ) (ms13 t) fullShare (if k0_cond1 (grid0.coords t) = 1#1 then k0_pay6 else (dats m 0 c).before 13 t d)
    ⊢ (dats m 0 c).leavesExact 13 t := by
  by_cases hz : t.val = 0
  · rw [if_pos ((cond1_iff t).mpr hz), leaves_after m c 13 t (.inl (by rw [idle_13, decide_eq_false (by omega)])), after_13, leftAt_zero m c t hz]
    exact Idealize.SL.BI.Entails.refl _
  · rw [if_neg (fun e => hz ((cond1_iff t).mp e)), Dat.leavesExact_idle (dats m 0 c) 13 t (by rw [idle_13, decide_eq_true ⟨h, hz⟩]) (flush_13 t (by omega))]
    iintro H; iexists _; iexact H

/-- The inputs' buffers after the body, as the obligation states them, -/
theorem leaves_ins (t : Fin cfg0.N) : insAt c (ms0 t) (ms1 t) (ms2 t) (ms3 t) (ms4 t) (ms5 t) (ms6 t) (ms7 t) (ins m c t)
    ⊢ iprop((dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t) := by
  rw [leaves_after m c 0 t (.inl rfl), after_0, leaves_after m c 1 t (.inl rfl), after_1, leaves_after m c 2 t (.inl rfl), after_2, leaves_after m c 3 t (.inl rfl), after_3, leaves_after m c 4 t (.inl rfl), after_4, leaves_after m c 5 t (.inl rfl), after_5, leaves_after m c 6 t (.inl rfl), after_6, leaves_after m c 7 t (.inl rfl), after_7]
  exact Idealize.SL.BI.Entails.refl _

set_option maxHeartbeats 4000000 in
theorem sound_first (t : Fin cfg0.N) (h : t.val % 2 = 0) :
    bodyPre m c t ⊢ wp frame (wpE (defs₀ (F := F)) Variants.none c none) Set.univ (bodyAt0 t) (fun _ => bodyPost m c t) := by
  obtain ⟨dg, hl⟩ := leftAt_first m c t h
  unfold bodyPre bodyPost bodyAt0
  simp only [before_0, before_1, before_2, before_3, before_4, before_5, before_6, before_7]
  rw [show (dats m 0 c).owesAt () t.succ = (dats m 0 c).owesAt () t.castSucc from rfl, Φ_castSucc]
  rw [show (dats m 0 c).Φ t.succ = iprop(owns (c : Thread nD τ) scM fullShare (leftAt m c t).dh ∗ (∃ r, prngReg c r)) from rfl]
  rw [Dat.leavesExact_idle (dats m 0 c) 8 t (by rw [idle_8, decide_eq_true h]) (flush_8 t h), leaves_after m c 9 t (.inl rfl), after_9,
    leaves_after m c 10 t (.inl rfl), after_10, leaves_after m c 11 t (.inl (by rw [idle_11, decide_eq_false (by omega)])), after_11,
    leaves_after m c 12 t (.inl (by rw [idle_12, decide_eq_false (by omega)])), after_12, hl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave ⟨⟨%dh, HS⟩, Hg⟩ := (Acc_open m c t.val (Nat.le_of_lt t.isLt)) $$ [HΦ]
  · iexact HΦ
  iapply (body_first c (grid0.coords t) _ _ _ _ _ _ _ _ _ _ _ _ _ _ _ _ _ _ _ _ _ _ _ _ _ _ _ _ _ _ (ins m c t) ((cond2_iff t).mpr h) (fun e => by have := (cond3_iff t).mp e; omega) _ _ _ _ _ _ dh Set.univ _)
  isplitl [H0 H1 H2 H3 H4 H5 H6 H7]
  · unfold insAt
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H10 H11 H12 H13 HS]
  · unfold outsAt
    isplitl [H8]; · iexact H8
    isplitl [H9]; · iexact H9
    isplitl [H10]; · iexact H10
    isplitl [H11]; · iexact H11
    isplitl [H12]; · iexact H12
    isplitl [H13]; · iexact H13
    iexact HS
  iintro ⟨HI, HO⟩
  unfold outsAt
  icases HO with ⟨H8, H9, H10, H11, H12, H13, HS⟩
  ihave ⟨H0, H1, H2, H3, H4, H5, H6, H7⟩ := (leaves_ins m c t) $$ [HI]
  · iexact HI
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  iapply (leaves_dg m c t h d13)
  iexact H13

set_option maxHeartbeats 4000000 in
theorem sound_last (t : Fin cfg0.N) (h : t.val % 2 = 1) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before_0, before_1, before_2, before_3, before_4, before_5, before_6, before_7, before_11 m c t h, before_12 m c t h, before_13 m c t hz]
  rw [show (dats m 0 c).owesAt () t.succ = (dats m 0 c).owesAt () t.castSucc from rfl, Φ_castSucc, Acc_pos m c t.val _ hz]
  rw [show (dats m 0 c).Φ t.succ = iprop(owns (c : Thread nD τ) scM fullShare (leftAt m c t).dh ∗ (∃ r, prngReg c r)) from rfl]
  rw [leaves_after m c 8 t (.inl (by rw [idle_8, decide_eq_false (by omega)])), after_8, leaves_after m c 9 t (.inl rfl), after_9,
    leaves_after m c 10 t (.inl rfl), after_10, leaves_after m c 11 t (.inr ((flush0_11 t).mpr h)), after_11,
    leaves_after m c 12 t (.inr ((flush0_12 t).mpr h)), after_12,
    leaves_after m c 13 t (.inl (by rw [idle_13, decide_eq_false (by omega)])), after_13, leftAt_odd m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_last c (grid0.coords t) _ _ _ _ _ _ _ _ _ _ _ _ _ _ _ _ _ _ _ _ _ _ _ _ _ _ _ _ _ _ (ins m c t) (fun e => hz ((cond1_iff t).mp e)) (fun e => by have := (cond2_iff t).mp e; omega)
    ((cond3_iff t).mpr h) _ _ _ _ _ _ _ Set.univ _)
  isplitl [H0 H1 H2 H3 H4 H5 H6 H7]
  · unfold insAt
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H10 H11 H12 H13 HS]
  · unfold outsAt
    isplitl [H8]; · iexact H8
    isplitl [H9]; · iexact H9
    isplitl [H10]; · iexact H10
    isplitl [H11]; · iexact H11
    isplitl [H12]; · iexact H12
    isplitl [H13]; · iexact H13
    iexact HS
  iintro ⟨HI, HO⟩
  unfold outsAt
  icases HO with ⟨H8, H9, H10, H11, H12, H13, HS⟩
  ihave ⟨H0, H1, H2, H3, H4, H5, H6, H7⟩ := (leaves_ins m c t) $$ [HI]
  · iexact HI
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The launch -/

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  refine triple_restated (?_ : bodyPre m c t ⊢ _) rfl .rfl fun _ => .rfl
  rcases Nat.mod_two_eq_zero_or_one t.val with h | h
  · exact sound_first m c t h
  · exact sound_last m c t h

theorem hin : Pipeline.ΦA spec0 c ⊢ (dats m 0 c).Φ 0 := Idealize.SL.BI.Entails.refl _

theorem hout : (dats m 0 c).Φ (Fin.last cfg0.N) ⊢ Pipeline.ΦA spec0 c := by
  rw [start_eq]
  exact Acc_open m c cfg0.N le_rfl

-- the launch's arguments are found by unifying types that take unfolding definitions
set_option backward.isDefEq.respectTransparency.types false in
theorem run_launch : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the pipeline's arrays at what the points wrote back, -/
theorem run_main : θ_run defs (onTc (τ := τ) (main (F := F))) (s₀ m ρ) (Pipeline.FramePost cfgs (dats m) 0 (V m)) :=
  (θ_run defs _ _).mono (fun _ h => h.1) (run_launch m ρ)

/-- A run that ends so leaves the arguments as they were: -/
theorem args_kept {r} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).1 0).trans (((dats m 0 c).arrAt_in 0 rfl _).trans ((A_eq m c 0).trans (V_arg m c main_arg0 (by decide)))),
    ((h c).1 1).trans (((dats m 0 c).arrAt_in 1 rfl _).trans ((A_eq m c 1).trans (V_arg m c main_arg1 (by decide)))),
    ((h c).1 2).trans (((dats m 0 c).arrAt_in 2 rfl _).trans ((A_eq m c 2).trans (V_arg m c main_arg2 (by decide)))),
    ((h c).2 main_arg3 (Pipeline.mem_restRefs_of main_arg3 (by decide) (by decide))).trans (V_arg m c main_arg3 (by decide)),
    ((h c).2 main_arg4 (Pipeline.mem_restRefs_of main_arg4 (by decide) (by decide))).trans (V_arg m c main_arg4 (by decide)),
    ((h c).2 main_arg5 (Pipeline.mem_restRefs_of main_arg5 (by decide) (by decide))).trans (V_arg m c main_arg5 (by decide))⟩

/-- with every counter at zero, the frame. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun _ h => ⟨args_kept m h.1, h.2⟩) (run_launch m ρ)

end Cert.Proof.Bwd
-- ==== Proof.Swiglu.lean ====
/- A layer's swiglu over the extended reals, entry by entry: the norm, the two products, their gate and the product that is
   added to the layer's input; and how the programs cut the tokens and the hidden columns. -/
module

public import proofs.«01_k».proof.Proof.Spec
public import Idealize.ShloMosaic.Lib.Pointwise

@[expose] public section

noncomputable section

namespace Cert.Proof

open Idealize.ShloMosaic

/-- Row `r` of the tile of 512 tokens number `n`. -/
def tok (n : ℕ) (r : Fin 512) : Fin 8192 := Fin.ofNat 8192 (n * 512 + r)

theorem tok_val {n : ℕ} (hn : n < 16) (r : Fin 512) : (tok n r).val = n * 512 + r := Nat.mod_eq_of_lt (by omega)

/-- Column `i` of half `q`. -/
def col (q : ℕ) (i : Fin 1408) : Fin 2816 := Fin.ofNat 2816 (q * 1408 + i)

theorem col_val {q : ℕ} (hq : q < 2) (i : Fin 1408) : (col q i).val = q * 1408 + i := Nat.mod_eq_of_lt (by omega)

/-- Every column is in one of the halves. -/
theorem sum_cols (f : Fin 2816 → EReal) : ∑ i, f i = (∑ i, f (col 0 i)) + ∑ i, f (col 1 i) := by
  refine (Fin.sum_univ_add (a := 1408) (b := 1408) f).trans (congrArg₂ (· + ·) ?_ ?_)
  all_goals
    refine Finset.sum_congr rfl fun i _ => congrArg f (Fin.ext ?_)
    rw [col_val (by decide)]
    simp [Nat.add_comm]

/-- A table of numbers as an array. -/
def table {n k : ℕ} (f : Fin n → Fin k → EReal) : (⟨2, ![n, k]⟩ : Shape).Idx → EReal := fun y => f (y 0) (y 1)

theorem eq_table {n k : ℕ} {f : Fin n → Fin k → EReal} {v : (⟨2, ![n, k]⟩ : Shape).Idx → EReal} (h : ∀ s j, v (ix2 s j) = f s j) : v = table f :=
  funext fun y => (congrArg v (eq_ix2 y)).trans (h (y 0) (y 1))

/-- The logistic function. -/
def sigmoid (a : EReal) : EReal := Ideal.div 1 (1 + Ideal.exp (-a))

/-- What the layer reads: its input, the norm's gain and the three weights. -/
structure Ffn where
  x : Fin 8192 → Fin 1024 → EReal
  g : Fin 1024 → EReal
  gate : Fin 1024 → Fin 2816 → EReal
  up : Fin 1024 → Fin 2816 → EReal
  down : Fin 2816 → Fin 1024 → EReal

namespace Ffn

variable (w : Ffn)

def r (s : Fin 8192) : EReal := rms rowLen eps (w.x s)
def h (s : Fin 8192) (j : Fin 1024) : EReal := w.x s j * w.r s * w.g j
def a (s : Fin 8192) (f : Fin 2816) : EReal := ∑ j, w.h s j * w.gate j f
def b (s : Fin 8192) (f : Fin 2816) : EReal := ∑ j, w.h s j * w.up j f
def s (s : Fin 8192) (f : Fin 2816) : EReal := w.a s f * sigmoid (w.a s f) * w.b s f
def xo (s : Fin 8192) (j : Fin 1024) : EReal := w.x s j + ∑ f, w.s s f * w.down f j

end Ffn

end Cert.Proof
-- ==== Proof.SwigluBwd.lean ====
/- The gradient of a layer's swiglu over the extended reals, entry by entry: through the third product, the gate, the two products
   and the norm. At real entries the gate's derivative is the same in its two spellings. -/
module

public import proofs.«01_k».proof.Proof.Swiglu
public import proofs.«01_k».proof.Proof.Tiles

@[expose] public section

noncomputable section

namespace Cert.Proof

open Idealize.ShloMosaic

/-- Every token is in one of the tiles. -/
theorem sum_toks (f : Fin 8192 → EReal) : ∑ n ∈ Finset.range 16, ∑ r, f (tok n r) = ∑ s, f s := by
  rw [sum_tiles, Finset.sum_range]
  exact Finset.sum_congr rfl fun n _ => Finset.sum_congr rfl fun r _ => congrArg f (Fin.ext (tok_val n.isLt r))

/-- A row by its entries. -/
def row {k : ℕ} (f : Fin k → EReal) : (⟨2, ![1, k]⟩ : Shape).Idx → EReal := fun y => f (y 1)

theorem eq_row {k : ℕ} {f : Fin k → EReal} {v : (⟨2, ![1, k]⟩ : Shape).Idx → EReal} (h : ∀ i j, v (ix2 i j) = f j) : v = row f :=
  funext fun y => (congrArg v (eq_ix2 y)).trans (h (y 0) (y 1))

/-- What the gradient reads: the layer and the cotangent of its output. -/
structure FfnBwd extends Ffn where
  dxo : Fin 8192 → Fin 1024 → EReal

namespace FfnBwd

variable (w : FfnBwd)

def ds (s : Fin 8192) (f : Fin 2816) : EReal := ∑ j, w.dxo s j * w.down f j
def db (s : Fin 8192) (f : Fin 2816) : EReal := w.ds s f * (w.a s f * sigmoid (w.a s f))
def da (s : Fin 8192) (f : Fin 2816) : EReal := w.ds s f * w.b s f * (sigmoid (w.a s f) * (1 + w.a s f * (1 - sigmoid (w.a s f))))
def dh (s : Fin 8192) (j : Fin 1024) : EReal := (∑ f, w.da s f * w.gate j f) + ∑ f, w.db s f * w.up j f
def dg (j : Fin 1024) : EReal := ∑ s, w.dh s j * (w.x s j * w.r s)
def dx (s : Fin 8192) (j : Fin 1024) : EReal :=
  w.dxo s j + w.r s * (w.dh s j * w.g j - (w.x s j * w.r s) * Ideal.div (∑ k, w.dh s k * w.g k * (w.x s k * w.r s)) rowLen)

/-- Every entry of the arguments is a real number. -/
structure Real : Prop where
  dxo : ∀ s j, IsR (w.dxo s j)
  x : ∀ s j, IsR (w.x s j)
  g : ∀ j, IsR (w.g j)
  gate : ∀ j f, IsR (w.gate j f)
  up : ∀ j f, IsR (w.up j f)
  down : ∀ f j, IsR (w.down f j)

end FfnBwd

theorem isR_one : IsR 1 := ⟨1, EReal.coe_one.symm⟩

theorem sigmoid_isR {a : EReal} (ha : IsR a) : IsR (sigmoid a) := by
  obtain ⟨x, rfl⟩ := ha
  unfold sigmoid
  rw [← EReal.coe_neg, Ideal.exp_coe, ← EReal.coe_one, ← EReal.coe_add]
  exact (isR_coe 1).div (by positivity)

/-- The derivative of `a * sigmoid a`, by the product rule, at cotangent `d`. -/
theorem silu_bwd {d a s : EReal} (hd : IsR d) (ha : IsR a) (hs : IsR s) : d * s + a * d * (s * (1 - s)) = d * (s * (1 + a * (1 - s))) := by
  obtain ⟨d, rfl⟩ := hd
  obtain ⟨a, rfl⟩ := ha
  obtain ⟨s, rfl⟩ := hs
  simp only [← EReal.coe_one, ← EReal.coe_mul, ← EReal.coe_sub, ← EReal.coe_add]
  exact congrArg _ (by ring)

namespace FfnBwd.Real

variable {w : FfnBwd} (hw : w.Real)
include hw

theorem r (s : Fin 8192) : IsR (w.r s) := by
  obtain ⟨e, he, hee⟩ := eps_eq
  unfold Ffn.r
  rw [rowLen_eq, hee]
  exact rms_isR (by norm_num) he (hw.x s)

theorem h (s : Fin 8192) (j : Fin 1024) : IsR (w.h s j) := ((hw.x s j).mul (hw.r s)).mul (hw.g j)
theorem a (s : Fin 8192) (f : Fin 2816) : IsR (w.a s f) := IsR.sum fun j _ => (hw.h s j).mul (hw.gate j f)
theorem b (s : Fin 8192) (f : Fin 2816) : IsR (w.b s f) := IsR.sum fun j _ => (hw.h s j).mul (hw.up j f)
theorem sig_a (s : Fin 8192) (f : Fin 2816) : IsR (sigmoid (w.a s f)) := sigmoid_isR (hw.a s f)
theorem ds (s : Fin 8192) (f : Fin 2816) : IsR (w.ds s f) := IsR.sum fun j _ => (hw.dxo s j).mul (hw.down f j)
theorem db (s : Fin 8192) (f : Fin 2816) : IsR (w.db s f) := (hw.ds s f).mul ((hw.a s f).mul (hw.sig_a s f))
theorem da (s : Fin 8192) (f : Fin 2816) : IsR (w.da s f) :=
  ((hw.ds s f).mul (hw.b s f)).mul ((hw.sig_a s f).mul (isR_one.add ((hw.a s f).mul (isR_one.sub (hw.sig_a s f)))))
theorem dh (s : Fin 8192) (j : Fin 1024) : IsR (w.dh s j) :=
  (IsR.sum fun f _ => (hw.da s f).mul (hw.gate j f)).add (IsR.sum fun f _ => (hw.db s f).mul (hw.up j f))

end FfnBwd.Real

end Cert.Proof

end
-- ==== Proof.FwdRef.lean ====
/- The forward reference's four results, entry by entry. -/
module

public import proofs.«01_k».proof.Proof.Swiglu
public import proofs.«01_k».proof.Proof.Gen.Reference3Ideal.Read
public import Idealize.ShloMosaic.Lib.Pointwise

@[expose] public section

set_option maxRecDepth 16384

noncomputable section

namespace Cert.Proof.FwdRef

open Idealize.ShloMosaic Cert.Reference3Ideal Cert.Reference3Ideal.Gen Cert.Reference3Ideal.Read Idealize.ShloMosaic.Pointwise

variable (x0 : (⟨S8192x1024, .f32⟩ : BufTy).Contents (Elt Ideal)) (x1 : (⟨S1x1024, .f32⟩ : BufTy).Contents (Elt Ideal))
  (x2 x3 : (⟨S1024x2816, .f32⟩ : BufTy).Contents (Elt Ideal)) (x4 : (⟨S2816x1024, .f32⟩ : BufTy).Contents (Elt Ideal))

/-- The arguments by their entries. -/
def arr : Ffn where
  x s j := x0 (ix2 s j)
  g j := x1 (ix2 0 j)
  gate j f := x2 (ix2 j f)
  up j f := x3 (ix2 j f)
  down f j := x4 (ix2 f j)

theorem h (s j) : val_main_v11 (F := Ideal) x0 x1 (ix2 s j) = (arr x0 x1 x2 x3 x4).h s j := by
  pointwise [val_main_v11, val_main_v10, val_main_v9, val_main_v8, val_main_v7, val_main_v6, val_main_v5, val_main_v4, val_main_v3, val_main_v2, val_main_v1, val_main_v0, val_main_cst, val_main_cst_0, val_main_cst_1]
  rfl

theorem a (s f) : val_main_v12 (F := Ideal) x0 x1 x2 (ix2 s f) = (arr x0 x1 x2 x3 x4).a s f := by
  pointwise [val_main_v12]
  exact Finset.sum_congr rfl fun j _ => congrArg (· * _) (h x0 x1 x2 x3 x4 s j)

theorem b (s f) : val_main_v13 (F := Ideal) x0 x1 x3 (ix2 s f) = (arr x0 x1 x2 x3 x4).b s f := by
  pointwise [val_main_v13]
  exact Finset.sum_congr rfl fun j _ => congrArg (· * _) (h x0 x1 x2 x3 x4 s j)

theorem sig_a (s f) : val_main_call0_v5 (F := Ideal) x0 x1 x2 (ix2 s f) = sigmoid ((arr x0 x1 x2 x3 x4).a s f) := by
  rw [← a]
  pointwise [val_main_call0_v5, val_main_call0_v4, val_main_call0_v3, val_main_call0_v2, val_main_call0_v1, val_main_call0_v0, val_main_call0_cst, val_main_call0_cst_0]
  rfl

theorem s (s f) : val_main_v15 (F := Ideal) x0 x1 x2 x3 (ix2 s f) = (arr x0 x1 x2 x3 x4).s s f := by
  pointwise [val_main_v15, val_main_v14]
  rw [a x0 x1 x2 x3 x4, b x0 x1 x2 x3 x4, sig_a x0 x1 x2 x3 x4]
  rfl

theorem xo (t j) : val_main_v17 (F := Ideal) x0 x1 x2 x3 x4 (ix2 t j) = (arr x0 x1 x2 x3 x4).xo t j := by
  pointwise [val_main_v17, val_main_v16]
  exact congrArg (_ + ·) (Finset.sum_congr rfl fun f _ => congrArg (· * _) (s x0 x1 x2 x3 x4 t f))

theorem a_bf (s f) : val_main_v18 (F := Ideal) x0 x1 x2 (ix2 s f) = (arr x0 x1 x2 x3 x4).a s f := by
  pointwise [val_main_v18]
  exact a x0 x1 x2 x3 x4 s f

theorem b_bf (s f) : val_main_v19 (F := Ideal) x0 x1 x3 (ix2 s f) = (arr x0 x1 x2 x3 x4).b s f := by
  pointwise [val_main_v19]
  exact b x0 x1 x2 x3 x4 s f

theorem s_bf (t f) : val_main_v20 (F := Ideal) x0 x1 x2 x3 (ix2 t f) = (arr x0 x1 x2 x3 x4).s t f := by
  pointwise [val_main_v20]
  exact s x0 x1 x2 x3 x4 t f

end Cert.Proof.FwdRef
-- ==== Proof.BwdRef.lean ====
/- The backward reference's six results, entry by entry. -/
module

public import proofs.«01_k».proof.Proof.SwigluBwd
public import proofs.«01_k».proof.Proof.FwdRef
public import proofs.«01_k».proof.Proof.Gen.Reference2Ideal.Read
public import Idealize.ShloMosaic.Lib.Pointwise

@[expose] public section

set_option maxRecDepth 16384

noncomputable section

namespace Cert.Proof.BwdRef

open Idealize.ShloMosaic Cert.Reference2Ideal Cert.Reference2Ideal.Gen Cert.Reference2Ideal.Read Idealize.ShloMosaic.Pointwise

variable (x0 x1 : (⟨S8192x1024, .f32⟩ : BufTy).Contents (Elt Ideal)) (x2 : (⟨S1x1024, .f32⟩ : BufTy).Contents (Elt Ideal))
  (x3 x4 : (⟨S1024x2816, .f32⟩ : BufTy).Contents (Elt Ideal)) (x5 : (⟨S2816x1024, .f32⟩ : BufTy).Contents (Elt Ideal))

/-- The arguments by their entries. -/
def arr : FfnBwd := { FwdRef.arr x1 x2 x3 x4 x5 with dxo := fun s j => x0 (ix2 s j) }

/-! Forward: the norm, the two products, the gate. -/

theorem meanSq_eq (s : Fin 8192) (k : Fin 1) :
    val_main_v6 (F := Ideal) x1 (ix2 s k) = meanSq rowLen eps ((arr x0 x1 x2 x3 x4 x5).x s) := by
  pointwise [val_main_v6, val_main_v5, val_main_v4, val_main_v3, val_main_v2, val_main_v1, val_main_v0, val_main_cst,
    val_main_cst_0, val_main_cst_1]
  rfl

theorem r (s : Fin 8192) (k : Fin 1) : val_main_v7 (F := Ideal) x1 (ix2 s k) = (arr x0 x1 x2 x3 x4 x5).r s := by
  pointwise [val_main_v7]
  rw [meanSq_eq x0 x1 x2 x3 x4 x5]
  rfl

theorem h (s j) : val_main_v14 (F := Ideal) x1 x2 (ix2 s j) = (arr x0 x1 x2 x3 x4 x5).h s j := by
  pointwise [val_main_v14, val_main_v13, val_main_v12, val_main_v11]
  rw [r x0 x1 x2 x3 x4 x5]
  rfl

theorem a (s f) : val_main_v15 (F := Ideal) x1 x2 x3 (ix2 s f) = (arr x0 x1 x2 x3 x4 x5).a s f := by
  pointwise [val_main_v15]
  exact Finset.sum_congr rfl fun j _ => congrArg (· * _) (h x0 x1 x2 x3 x4 x5 s j)

theorem b (s f) : val_main_v16 (F := Ideal) x1 x2 x4 (ix2 s f) = (arr x0 x1 x2 x3 x4 x5).b s f := by
  pointwise [val_main_v16]
  exact Finset.sum_congr rfl fun j _ => congrArg (· * _) (h x0 x1 x2 x3 x4 x5 s j)

theorem sig_a (s f) : val_main_v17_2 (F := Ideal) x1 x2 x3 (ix2 s f) = sigmoid ((arr x0 x1 x2 x3 x4 x5).a s f) := by
  rw [← a]
  pointwise [val_main_v17_2, val_main_call0_v4, val_main_call0_v3, val_main_call0_v2, val_main_call0_v1, val_main_call0_v0, val_main_call0_cst, val_main_call0_cst_0]
  rfl

/-! Backward. -/

theorem ds (s f) : val_main_v20 (F := Ideal) x0 x5 (ix2 s f) = (arr x0 x1 x2 x3 x4 x5).ds s f := by
  pointwise [val_main_v20]
  rfl

theorem db (s f) : val_main_v21 (F := Ideal) x0 x1 x2 x3 x5 (ix2 s f) = (arr x0 x1 x2 x3 x4 x5).db s f := by
  pointwise [val_main_v21, val_main_v17_0]
  rw [a x0 x1 x2 x3 x4 x5, sig_a x0 x1 x2 x3 x4 x5, ds x0 x1 x2 x3 x4 x5, mul_comm]
  rfl

variable {x0 x1 x2 x3 x4 x5}

theorem da (hw : (arr x0 x1 x2 x3 x4 x5).Real) (s f) : val_main_v23 (F := Ideal) x0 x1 x2 x3 x4 x5 (ix2 s f) = (arr x0 x1 x2 x3 x4 x5).da s f := by
  pointwise [val_main_v23, val_main_call1_v2, val_main_call1_v1, val_main_call1_v0, val_main_v22, val_main_v17_1, val_main_call0_v7, val_main_call0_v6,
    val_main_call0_cst_1]
  rw [a x0 x1 x2 x3 x4 x5, b x0 x1 x2 x3 x4 x5, sig_a x0 x1 x2 x3 x4 x5, ds x0 x1 x2 x3 x4 x5]
  exact silu_bwd ((hw.ds s f).mul (hw.b s f)) (hw.a s f) (hw.sig_a s f)

theorem dh (hw : (arr x0 x1 x2 x3 x4 x5).Real) (s j) : val_main_v26 (F := Ideal) x0 x1 x2 x3 x4 x5 (ix2 s j) = (arr x0 x1 x2 x3 x4 x5).dh s j := by
  pointwise [val_main_v26, val_main_v25, val_main_v24]
  simp only [da hw, db x0 x1 x2 x3 x4 x5]
  rfl

theorem dg (hw : (arr x0 x1 x2 x3 x4 x5).Real) (i j) : val_main_v29 (F := Ideal) x0 x1 x2 x3 x4 x5 (ix2 i j) = (arr x0 x1 x2 x3 x4 x5).dg j := by
  pointwise [val_main_v29, val_main_v28, val_main_v27, val_main_v12, val_main_v11, val_main_cst_3]
  refine Finset.sum_congr rfl fun s _ => ?_
  rw [r x0 x1 x2 x3 x4 x5, dh hw, mul_comm]
  rfl

theorem dx (hw : (arr x0 x1 x2 x3 x4 x5).Real) (s j) : val_main_v46 (F := Ideal) x0 x1 x2 x3 x4 x5 (ix2 s j) = (arr x0 x1 x2 x3 x4 x5).dx s j := by
  pointwise [val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v10, val_main_v9,
    val_main_v8, val_main_cst_2, val_main_cst_4, val_main_cst_5, val_main_cst_6]
  simp only [r x0 x1 x2 x3 x4 x5, dh hw, meanSq_eq x0 x1 x2 x3 x4 x5]
  simp only [Finset.univ_unique, Finset.sum_singleton]
  obtain ⟨e, he, hee⟩ := eps_eq
  have key := rms_bwd (x := (arr x0 x1 x2 x3 x4 x5).x s) (d := fun k => (arr x0 x1 x2 x3 x4 x5).dh s k * (arr x0 x1 x2 x3 x4 x5).g k)
    (c := 1024) (e := e) (by norm_num) he (hw.x s) (fun k => (hw.dh s k).mul (hw.g k)) j
  rw [← rowLen_eq, ← hee, ← half_eq] at key
  exact congrArg _ key

theorem da_bf (hw : (arr x0 x1 x2 x3 x4 x5).Real) (s f) : val_main_v47 (F := Ideal) x0 x1 x2 x3 x4 x5 (ix2 s f) = (arr x0 x1 x2 x3 x4 x5).da s f := by
  pointwise [val_main_v47]
  exact da hw s f

variable (x0 x1 x2 x3 x4 x5)

theorem db_bf (s f) : val_main_v48 (F := Ideal) x0 x1 x2 x3 x5 (ix2 s f) = (arr x0 x1 x2 x3 x4 x5).db s f := by
  pointwise [val_main_v48]
  exact db x0 x1 x2 x3 x4 x5 s f

theorem h_bf (s j) : val_main_v49 (F := Ideal) x1 x2 (ix2 s j) = (arr x0 x1 x2 x3 x4 x5).h s j := by
  pointwise [val_main_v49]
  exact h x0 x1 x2 x3 x4 x5 s j

theorem dxo_bf (s j) : val_main_v50 (F := Ideal) x0 (ix2 s j) = (arr x0 x1 x2 x3 x4 x5).dxo s j := by
  pointwise [val_main_v50]
  rfl

end Cert.Proof.BwdRef

end
-- ==== Proof.Bwd.lean ====
/- What the backward kernel computes: its blocks are rows and columns of the arguments and of the two products the host made of
   them; both steps of a tile write their half of the activations' gradients, and the second, over the sum of the halves, the norm's. -/
module

public import proofs.«01_k».proof.Proof.BwdFrame
public import proofs.«01_k».proof.Proof.BwdRef
public import Idealize.ShloMosaic.Lib.Pointwise
public import Idealize.ShloMosaic.Lib.Pipeline.ValueKit
public import Idealize.ShloMosaic.Lib.StableHlo.RunRead

@[expose] public section

set_option maxRecDepth 16384

noncomputable section

namespace Cert.Proof.Bwd

open Idealize.ShloMosaic Idealize.ShloMosaic.TcCoe Idealize.SL.Sem Cert.Kernel2Ideal Cert.Kernel2Ideal.Gen Idealize.ShloMosaic.Pointwise
open Idealize.ShloMosaic.Pipeline (Dat)

variable (m : (ℓ : Loc nD τ sig) → Buf (Elt Ideal) ℓ) (c : Dev nD)

/-- The layer and the cotangent of the arguments. -/
def arr : FfnBwd := BwdRef.arr (m (c.tc.loc main_arg0)) (m (c.tc.loc main_arg1)) (m (c.tc.loc main_arg2)) (m (c.tc.loc main_arg3))
  (m (c.tc.loc main_arg4)) (m (c.tc.loc main_arg5))

/-! ## The blocks -/

theorem V_a : V m c main_v14 = Cert.Reference3Ideal.Read.val_main_v18 (F := Ideal) (m (c.tc.loc main_arg1)) (m (c.tc.loc main_arg2)) (m (c.tc.loc main_arg3)) := by
  unfold V
  after_reads_simp
  rfl

theorem V_b : V m c main_v15 = Cert.Reference3Ideal.Read.val_main_v19 (F := Ideal) (m (c.tc.loc main_arg1)) (m (c.tc.loc main_arg2)) (m (c.tc.loc main_arg4)) := by
  unfold V
  after_reads_simp
  rfl

theorem V_gate : V m c main_v17 = truncf (F := Ideal) .bf16 (transpose S2816x1024 [1, 0] (m (c.tc.loc main_arg3) : Vec Ideal S1024x2816 .f32)
    transposes_S1024x2816_S2816x1024_1_0) bitsLt_bf16_f32 := by
  unfold V
  after_reads_simp

theorem V_up : V m c main_v19 = truncf (F := Ideal) .bf16 (transpose S2816x1024 [1, 0] (m (c.tc.loc main_arg4) : Vec Ideal S1024x2816 .f32)
    transposes_S1024x2816_S2816x1024_1_0) bitsLt_bf16_f32 := by
  unfold V
  after_reads_simp

theorem V_down : V m c main_v20 = truncf (F := Ideal) .bf16 (m (c.tc.loc main_arg5) : Vec Ideal S2816x1024 .f32) bitsLt_bf16_f32 := by
  unfold V
  after_reads_simp

theorem idx (t : Fin grid0.N) : (win0_0.index t 0 = t.val / 2 ∧ win0_0.index t 1 = 0) ∧ (win0_1.index t 0 = t.val / 2 ∧ win0_1.index t 1 = 0)
    ∧ (win0_2.index t 0 = 0 ∧ win0_2.index t 1 = 0)
    ∧ (win0_3.index t 0 = t.val / 2 ∧ win0_3.index t 1 = t.val % 2) ∧ (win0_4.index t 0 = t.val / 2 ∧ win0_4.index t 1 = t.val % 2)
    ∧ (win0_5.index t 0 = t.val % 2 ∧ win0_5.index t 1 = 0) ∧ (win0_6.index t 0 = t.val % 2 ∧ win0_6.index t 1 = 0)
    ∧ (win0_7.index t 0 = t.val % 2 ∧ win0_7.index t 1 = 0) ∧ (win0_8.index t 0 = t.val / 2 ∧ win0_8.index t 1 = 0)
    ∧ (win0_9.index t 0 = t.val / 2 ∧ win0_9.index t 1 = t.val % 2) ∧ (win0_10.index t 0 = t.val / 2 ∧ win0_10.index t 1 = t.val % 2)
    ∧ (win0_11.index t 0 = t.val / 2 ∧ win0_11.index t 1 = 0) ∧ (win0_12.index t 0 = t.val / 2 ∧ win0_12.index t 1 = 0)
    ∧ (win0_13.index t 0 = 0 ∧ win0_13.index t 1 = 0) ∧ t.val < 32 := by
  revert t; decide +kernel

theorem tile_lt (t : Fin cfg0.N) : t.val / 2 < 16 := Nat.div_lt_of_lt_mul (n := 2) (k := 16) (by have := idx t; omega)

theorem half_lt (t : Fin cfg0.N) : t.val % 2 < 2 := Nat.mod_lt _ (by decide)

theorem read_dxo (t : Fin cfg0.N) (r j) : iblk m c 0 t (ix2 r j) = (arr m c).dxo (tok (t.val / 2) r) j := by
  blk_simp [iblk]
  rw [V_arg m c main_arg0 (by decide)]
  refine congrArg (m (c.tc.loc main_arg0)) ?_
  blk_ext [idx t, tok_val (tile_lt t)]

theorem read_x (t : Fin cfg0.N) (r j) : iblk m c 1 t (ix2 r j) = (arr m c).x (tok (t.val / 2) r) j := by
  blk_simp [iblk]
  rw [V_arg m c main_arg1 (by decide)]
  refine congrArg (m (c.tc.loc main_arg1)) ?_
  blk_ext [idx t, tok_val (tile_lt t)]

theorem read_g (t : Fin cfg0.N) (j) : iblk m c 2 t (ix2 0 j) = (arr m c).g j := by
  blk_simp [iblk]
  rw [V_arg m c main_arg2 (by decide)]
  refine congrArg (m (c.tc.loc main_arg2)) ?_
  blk_ext [idx t]

theorem read_a (t : Fin cfg0.N) (r i) : iblk m c 3 t (ix2 r i) = (arr m c).a (tok (t.val / 2) r) (col (t.val % 2) i) := by
  blk_simp [iblk]
  rw [V_a]
  refine Eq.trans (congrArg _ ?_) (FwdRef.a_bf _ _ _ (m (c.tc.loc main_arg4)) (m (c.tc.loc main_arg5)) (tok (t.val / 2) r) (col (t.val % 2) i))
  blk_ext [idx t, tok_val (tile_lt t), col_val (half_lt t)]

theorem read_b (t : Fin cfg0.N) (r i) : iblk m c 4 t (ix2 r i) = (arr m c).b (tok (t.val / 2) r) (col (t.val % 2) i) := by
  blk_simp [iblk]
  rw [V_b]
  refine Eq.trans (congrArg _ ?_) (FwdRef.b_bf _ _ (m (c.tc.loc main_arg3)) _ (m (c.tc.loc main_arg5)) (tok (t.val / 2) r) (col (t.val % 2) i))
  blk_ext [idx t, tok_val (tile_lt t), col_val (half_lt t)]

theorem read_gate (t : Fin cfg0.N) (i j) : iblk m c 5 t (ix2 i j) = (arr m c).gate j (col (t.val % 2) i) := by
  blk_simp [iblk]
  rw [V_gate]
  pointwise []
  refine congrArg (m (c.tc.loc main_arg3)) ?_
  blk_ext [idx t, col_val (half_lt t)]

theorem read_up (t : Fin cfg0.N) (i j) : iblk m c 6 t (ix2 i j) = (arr m c).up j (col (t.val % 2) i) := by
  blk_simp [iblk]
  rw [V_up]
  pointwise []
  refine congrArg (m (c.tc.loc main_arg4)) ?_
  blk_ext [idx t, col_val (half_lt t)]

theorem read_down (t : Fin cfg0.N) (i j) : iblk m c 7 t (ix2 i j) = (arr m c).down (col (t.val % 2) i) j := by
  blk_simp [iblk]
  rw [V_down]
  refine congrArg (m (c.tc.loc main_arg5)) ?_
  blk_ext [idx t, col_val (half_lt t)]

/-! ## The body's values -/

theorem h_of (t : Fin cfg0.N) (r j) : (ins m c t).h (ix2 r j) = (arr m c).h (tok (t.val / 2) r) j := by
  pointwise [Ins.h, ins, k0_pay7]
  simp only [read_x, read_g]
  rfl

theorem dy_of (t : Fin cfg0.N) (r j) : (ins m c t).dy (ix2 r j) = (arr m c).dxo (tok (t.val / 2) r) j := by
  pointwise [Ins.dy, ins, k0_pay8]
  exact read_dxo m c t r j

section
variable {m c} {t : Fin cfg0.N} {Y : Vec Ideal S512x1024 .bf16} (hY : ∀ r j, Y (ix2 r j) = (arr m c).dxo (tok (t.val / 2) r) j)
include hY

theorem ds_of (r i) : k0_pay10 Y (iblk m c 7 t) (ix2 r i) = (arr m c).ds (tok (t.val / 2) r) (col (t.val % 2) i) := by
  pointwise [k0_pay10]
  simp only [read_down, hY r]
  rfl

theorem db_of (r i) : (ins m c t).db Y (ix2 r i) = (arr m c).db (tok (t.val / 2) r) (col (t.val % 2) i) := by
  pointwise [Ins.db, ins, k0_pay13, k0_pay12, k0_pay11]
  rw [ds_of hY, read_a]
  rfl

theorem da_of (r i) : (ins m c t).da Y (ix2 r i) = (arr m c).da (tok (t.val / 2) r) (col (t.val % 2) i) := by
  pointwise [Ins.da, ins, k0_pay14, k0_pay12, k0_pay11]
  rw [ds_of hY, read_a, read_b]
  rfl

theorem dh_of (A : Vec Ideal S512x1024 .f32) (r j) : (ins m c t).dh Y A (ix2 r j) = A (ix2 r j)
    + ((∑ i, (arr m c).da (tok (t.val / 2) r) (col (t.val % 2) i) * (arr m c).gate j (col (t.val % 2) i))
      + ∑ i, (arr m c).db (tok (t.val / 2) r) (col (t.val % 2) i) * (arr m c).up j (col (t.val % 2) i)) := by
  pointwise [Ins.dh, k0_pay1]
  simp only [da_of hY, db_of hY]
  simp only [ins, read_gate, read_up]

end

theorem r_of (t : Fin cfg0.N) (r : Fin 512) (k : Fin 1) : k0_pay2 (iblk m c 1 t) (ix2 r k) = (arr m c).r (tok (t.val / 2) r) := by
  pointwise [k0_pay2]
  simp only [read_x]
  rfl

section
variable {m c} {t : Fin cfg0.N} {H : Vec Ideal S512x1024 .f32} (hH : ∀ r j, H (ix2 r j) = (arr m c).dh (tok (t.val / 2) r) j)
include hH

theorem dx_of (r j) : (ins m c t).dx H (ix2 r j) = (arr m c).dx (tok (t.val / 2) r) j := by
  pointwise [Ins.dx, ins, k0_pay4, k0_pay3]
  simp only [hH, read_x, read_g, read_dxo, r_of]
  rfl

theorem dg_of (G : Vec Ideal S1x1024 .f32) (k : Fin 1) (j) : (ins m c t).dg H G (ix2 k j) = G (ix2 k j)
    + ∑ r, (arr m c).dh (tok (t.val / 2) r) j * ((arr m c).x (tok (t.val / 2) r) j * (arr m c).r (tok (t.val / 2) r)) := by
  pointwise [Ins.dg, ins, k0_pay5, k0_pay3]
  simp only [hH, read_x, r_of]

end

/-! ## What the points leave -/

/-- The step before a tile's second is its first. -/
theorem prev_even (t : Fin cfg0.N) (h : t.val % 2 = 1) : (prev t).val % 2 = 0 ∧ (prev t).val / 2 = t.val / 2 := by
  show (t.val - 1) % 2 = 0 ∧ (t.val - 1) / 2 = t.val / 2
  omega

theorem dy_first (t : Fin cfg0.N) (h : t.val % 2 = 0) (r j) : (leftAt m c t).dy (ix2 r j) = (arr m c).dxo (tok (t.val / 2) r) j := by
  obtain ⟨dg, hl⟩ := leftAt_first m c t h
  rw [hl]
  exact dy_of m c t r j

theorem dy_second (t : Fin cfg0.N) (h : t.val % 2 = 1) (r j) : (leftBy m c t).dy (ix2 r j) = (arr m c).dxo (tok (t.val / 2) r) j := by
  rw [← (prev_even t h).2]
  exact dy_first m c (prev t) (prev_even t h).1 r j

theorem h_first (t : Fin cfg0.N) (h : t.val % 2 = 0) (r j) : (leftAt m c t).h (ix2 r j) = (arr m c).h (tok (t.val / 2) r) j := by
  obtain ⟨dg, hl⟩ := leftAt_first m c t h
  rw [hl]
  exact h_of m c t r j

/-- The halves' sums the first step leaves, -/
theorem dh_first (t : Fin cfg0.N) (h : t.val % 2 = 0) (r j) : (leftAt m c t).dh (ix2 r j)
    = (∑ i, (arr m c).da (tok (t.val / 2) r) (col 0 i) * (arr m c).gate j (col 0 i))
      + ∑ i, (arr m c).db (tok (t.val / 2) r) (col 0 i) * (arr m c).up j (col 0 i) := by
  obtain ⟨dg, hl⟩ := leftAt_first m c t h
  rw [hl]
  refine (dh_of (dy_of m c t) (k0_pay9 (F := Ideal)) r j).trans ?_
  rw [h]
  refine (congrArg (· + _) ?_).trans (zero_add _)
  pointwise [k0_pay9]

/-- and with the second's the whole. -/
theorem dh_second (t : Fin cfg0.N) (h : t.val % 2 = 1) (r j) :
    (ins m c t).dh (leftBy m c t).dy (leftBy m c t).dh (ix2 r j) = (arr m c).dh (tok (t.val / 2) r) j := by
  rw [dh_of (dy_second m c t h), h]
  refine (congrArg (· + _) (dh_first m c (prev t) (prev_even t h).1 r j)).trans ?_
  rw [(prev_even t h).2, FfnBwd.dh, sum_cols (fun f => _ * (arr m c).gate j f), sum_cols (fun f => _ * (arr m c).up j f)]
  exact add_add_add_comm _ _ _ _

theorem out_dx (t : Fin cfg0.N) (h : t.val % 2 = 1) (y) : (leftAt m c t).dx y = (arr m c).dx (tok (t.val / 2) (y 0)) (y 1) := by
  obtain ⟨r, j, rfl⟩ : ∃ (r : Fin 512) (j : Fin 1024), y = ix2 r j := ⟨y 0, y 1, eq_ix2 y⟩
  rw [leftAt_odd m c t h]
  exact dx_of (dh_second m c t h) r j

theorem out_da (t : Fin cfg0.N) (y) : (leftAt m c t).da y = (arr m c).da (tok (t.val / 2) (y 0)) (col (t.val % 2) (y 1)) := by
  obtain ⟨r, i, rfl⟩ : ∃ (r : Fin 512) (i : Fin 1408), y = ix2 r i := ⟨y 0, y 1, eq_ix2 y⟩
  rcases Nat.mod_two_eq_zero_or_one t.val with h | h
  · obtain ⟨dg, hl⟩ := leftAt_first m c t h
    rw [hl]
    exact da_of (dy_of m c t) r i
  · rw [leftAt_odd m c t h]
    exact da_of (dy_second m c t h) r i

theorem out_db (t : Fin cfg0.N) (y) : (leftAt m c t).db y = (arr m c).db (tok (t.val / 2) (y 0)) (col (t.val % 2) (y 1)) := by
  obtain ⟨r, i, rfl⟩ : ∃ (r : Fin 512) (i : Fin 1408), y = ix2 r i := ⟨y 0, y 1, eq_ix2 y⟩
  rcases Nat.mod_two_eq_zero_or_one t.val with h | h
  · obtain ⟨dg, hl⟩ := leftAt_first m c t h
    rw [hl]
    exact db_of (dy_of m c t) r i
  · rw [leftAt_odd m c t h]
    exact db_of (dy_second m c t h) r i

theorem out_h (t : Fin cfg0.N) (h : t.val % 2 = 1) (y) : (leftAt m c t).h y = (arr m c).h (tok (t.val / 2) (y 0)) (y 1) := by
  obtain ⟨r, j, rfl⟩ : ∃ (r : Fin 512) (j : Fin 1024), y = ix2 r j := ⟨y 0, y 1, eq_ix2 y⟩
  rw [leftAt_odd m c t h]
  refine (h_first m c (prev t) (prev_even t h).1 r j).trans ?_
  rw [(prev_even t h).2]
  rfl

theorem out_dy (t : Fin cfg0.N) (h : t.val % 2 = 1) (y) : (leftAt m c t).dy y = (arr m c).dxo (tok (t.val / 2) (y 0)) (y 1) := by
  obtain ⟨r, j, rfl⟩ : ∃ (r : Fin 512) (j : Fin 1024), y = ix2 r j := ⟨y 0, y 1, eq_ix2 y⟩
  rw [leftAt_odd m c t h]
  exact dy_second m c t h r j

theorem leftBy_eq (t : Fin cfg0.N) : leftBy m c t = leftAt m c (prev t) := rfl

/-- A tile's second step adds the tile's sum to the norm weight's gradient its first step kept. -/
theorem dg_step (t : Fin cfg0.N) (h : t.val % 2 = 1) (k : Fin 1) (j) : (leftAt m c t).dg (ix2 k j) = (leftAt m c (prev t)).dg (ix2 k j)
    + ∑ r, (arr m c).dh (tok (t.val / 2) r) j * ((arr m c).x (tok (t.val / 2) r) j * (arr m c).r (tok (t.val / 2) r)) := by
  rw [leftAt_odd m c t h, ← leftBy_eq]
  exact dg_of (dh_second m c t h) _ k j

theorem dg_start (t : Fin cfg0.N) (h : t.val = 0) (k : Fin 1) (j) : (leftAt m c t).dg (ix2 k j) = 0 := by
  rw [leftAt_zero m c t h]
  show k0_pay6 (F := Ideal) (ix2 k j) = 0
  pointwise [k0_pay6]

theorem dg_kept (t : Fin cfg0.N) (h : t.val % 2 = 0) (hz : t.val ≠ 0) : (leftAt m c t).dg = (leftAt m c (prev t)).dg := by
  rw [leftAt_even m c t h hz, ← leftBy_eq]
  rfl

theorem prev_val (t : Fin cfg0.N) : (prev t).val = t.val - 1 := rfl

/-- After tile `n`'s second step the norm weight's gradient is the sum over the tiles so far. -/
theorem dg_tiles (k : Fin 1) (j) (n : ℕ) : ∀ t : Fin cfg0.N, t.val = 2 * n + 1 → (leftAt m c t).dg (ix2 k j)
    = ∑ i ∈ Finset.range (n + 1), ∑ r, (arr m c).dh (tok i r) j * ((arr m c).x (tok i r) j * (arr m c).r (tok i r)) := by
  induction n with
  | zero =>
    intro t ht
    rw [dg_step m c t (by omega), dg_start m c (prev t) (by rw [prev_val]; omega), zero_add, show t.val / 2 = 0 by omega, Finset.sum_range_one]
  | succ n ih =>
    intro t ht
    rw [dg_step m c t (by omega), dg_kept m c (prev t) (by rw [prev_val]; omega) (by rw [prev_val]; omega),
      ih (prev (prev t)) (by rw [prev_val, prev_val]; omega), show t.val / 2 = n + 1 by omega, Finset.sum_range_succ _ (n + 1)]

/-! ## The arrays -/

theorem arr_dx : (dats m 0 c).arrAt 8 cfg0.N = (fun y => (arr m c).dx (y 0) (y 1) : Vec Ideal S8192x1024 .f32) := by
  refine (dats m 0 c).arrAt_eq_of_covers 8 _ (by decide +kernel) fun t hf y => ?_
  blk_simp
  rw [after_8]
  refine (out_dx m c t ((flush0_8 t).mp hf) y).trans (congrArg₂ (arr m c).dx (Fin.ext ?_) (Fin.ext ?_))
  · refine (tok_val (tile_lt t) _).trans ?_
    blk_simp [idx t]
  · blk_simp [idx t]

theorem arr_da : (dats m 0 c).arrAt 9 cfg0.N = (fun y => (arr m c).da (y 0) (y 1) : Vec Ideal S8192x2816 .bf16) := by
  refine (dats m 0 c).arrAt_eq_of_covers 9 _ (by decide +kernel) fun t hf y => ?_
  blk_simp
  rw [after_9]
  refine (out_da m c t y).trans (congrArg₂ (arr m c).da (Fin.ext ?_) (Fin.ext ?_))
  · refine (tok_val (tile_lt t) _).trans ?_
    blk_simp [idx t]
  · refine (col_val (half_lt t) _).trans ?_
    blk_simp [idx t]

theorem arr_db : (dats m 0 c).arrAt 10 cfg0.N = (fun y => (arr m c).db (y 0) (y 1) : Vec Ideal S8192x2816 .bf16) := by
  refine (dats m 0 c).arrAt_eq_of_covers 10 _ (by decide +kernel) fun t hf y => ?_
  blk_simp
  rw [after_10]
  refine (out_db m c t y).trans (congrArg₂ (arr m c).db (Fin.ext ?_) (Fin.ext ?_))
  · refine (tok_val (tile_lt t) _).trans ?_
    blk_simp [idx t]
  · refine (col_val (half_lt t) _).trans ?_
    blk_simp [idx t]

theorem arr_h : (dats m 0 c).arrAt 11 cfg0.N = (fun y => (arr m c).h (y 0) (y 1) : Vec Ideal S8192x1024 .bf16) := by
  refine (dats m 0 c).arrAt_eq_of_covers 11 _ (by decide +kernel) fun t hf y => ?_
  blk_simp
  rw [after_11]
  refine (out_h m c t ((flush0_11 t).mp hf) y).trans (congrArg₂ (arr m c).h (Fin.ext ?_) (Fin.ext ?_))
  · refine (tok_val (tile_lt t) _).trans ?_
    blk_simp [idx t]
  · blk_simp [idx t]

theorem arr_dy : (dats m 0 c).arrAt 12 cfg0.N = (fun y => (arr m c).dxo (y 0) (y 1) : Vec Ideal S8192x1024 .bf16) := by
  refine (dats m 0 c).arrAt_eq_of_covers 12 _ (by decide +kernel) fun t hf y => ?_
  blk_simp
  rw [after_12]
  refine (out_dy m c t ((flush0_12 t).mp hf) y).trans (congrArg₂ (arr m c).dxo (Fin.ext ?_) (Fin.ext ?_))
  · refine (tok_val (tile_lt t) _).trans ?_
    blk_simp [idx t]
  · blk_simp [idx t]

/-- The last point. -/
def t_end : Fin cfg0.N := ⟨31, by decide⟩

theorem arr_dg : (dats m 0 c).arrAt 13 cfg0.N = (fun y => (arr m c).dg (y 1) : Vec Ideal S1x1024 .f32) := by
  refine (dats m 0 c).arrAt_eq_of_after_last 13 t_end (by decide +kernel) _ fun y => ?_
  blk_simp
  rw [after_13]
  obtain ⟨k, j, rfl⟩ : ∃ (k : Fin 1) (j : Fin 1024), y = ix2 k j := ⟨y 0, y 1, eq_ix2 y⟩
  exact (dg_tiles m c k j 15 t_end rfl).trans (sum_toks fun s => (arr m c).dh s j * ((arr m c).x s j * (arr m c).r s))

end Cert.Proof.Bwd

end
-- ==== Proof.BwdRuns.lean ====
/- The backward programs' runs, each to the same six arrays where the arguments are real numbers. -/
module

public import proofs.«01_k».proof.Defs
public import proofs.«01_k».proof.Proof.Bwd
public import proofs.«01_k».proof.Proof.Finite
public import proofs.«01_k».proof.Proof.Gen.Kernel2
public import proofs.«01_k».proof.Proof.Gen.Reference2Ideal.Run
public import proofs.«01_k».proof.Proof.Gen.Pre_ffn_finite

@[expose] public section

set_option maxRecDepth 16384

noncomputable section

namespace Cert.Proof.Bwd

open Idealize.ShloMosaic Idealize.ShloMosaic.TcCoe Idealize.SL.Sem Idealize.ShloMosaic.Pointwise

section
open Cert.Pre_ffn_finite
variable [Cert.Pre_ffn_finite.Facts]

/-- The precondition read back. -/
theorem real_args (x0 x1 : FVec Ideal S8192x1024 .f32) (x2 : FVec Ideal S1x1024 .f32) (x3 x4 : FVec Ideal S1024x2816 .f32)
    (x5 : FVec Ideal S2816x1024 .f32) (h : fn x0 x1 x2 x3 x4 x5 = fun _ => 1#1) : (BwdRef.arr x0 x1 x2 x3 x4 x5).Real := by
  replace h := congrFun h (fun k => k.elim0)
  dsimp only [fn, fn_part1, fn_part2] at h
  obtain ⟨h, hdown⟩ := IntOp.andi_eq_one.1 h
  obtain ⟨h, hup⟩ := IntOp.andi_eq_one.1 h
  obtain ⟨h, hgate⟩ := IntOp.andi_eq_one.1 h
  obtain ⟨h, hg⟩ := IntOp.andi_eq_one.1 h
  obtain ⟨hdxo, hx⟩ := IntOp.andi_eq_one.1 h
  have lo : ∀ {s : Shape} {b} (i : s.Idx), broadcastInDim s ![] b (constant (F := Ideal) S_ .f32 0xFF800000#32) i = (⊥ : EReal) := fun _ => neg_inf
  have hi : ∀ {s : Shape} {b} (i : s.Idx), broadcastInDim s ![] b (constant (F := Ideal) S_ .f32 0x7F800000#32) i = (⊤ : EReal) := fun _ => pos_inf
  exact {
    dxo := fun s j => isR_of_between lo hi (Host.reduce_andi_all _ _ _ _ _ hdxo (ix2 s j))
    x := fun s j => isR_of_between lo hi (Host.reduce_andi_all _ _ _ _ _ hx (ix2 s j))
    g := fun j => isR_of_between lo hi (Host.reduce_andi_all _ _ _ _ _ hg (ix2 0 j))
    gate := fun j f => isR_of_between lo hi (Host.reduce_andi_all _ _ _ _ _ hgate (ix2 j f))
    up := fun j f => isR_of_between lo hi (Host.reduce_andi_all _ _ _ _ _ hup (ix2 j f))
    down := fun f j => isR_of_between lo hi (Host.reduce_andi_all _ _ _ _ _ hdown (ix2 f j)) }

end

section
open Cert.Kernel2Ideal Cert.Kernel2Ideal.Gen
variable (m : (ℓ : Loc nD τ sig) → Buf (Elt Ideal) ℓ) (c : Dev nD)

theorem res_dx : (dats m 0 c).arrAt 8 cfg0.N = table (arr m c).dx := arr_dx m c
theorem res_da : (dats m 0 c).arrAt 9 cfg0.N = table (arr m c).da := arr_da m c
theorem res_db : (dats m 0 c).arrAt 10 cfg0.N = table (arr m c).db := arr_db m c
theorem res_h : (dats m 0 c).arrAt 11 cfg0.N = table (arr m c).h := arr_h m c
theorem res_dy : (dats m 0 c).arrAt 12 cfg0.N = table (arr m c).dxo := arr_dy m c
theorem res_dg : (dats m 0 c).arrAt 13 cfg0.N = row (arr m c).dg := arr_dg m c

set_option maxHeartbeats 4000000 in
theorem kernel_run (ρ : Dev nD → PrngReg) :
    θ_run defs (onTc (τ := τ) (main (F := Ideal))) ⟨m, fun _ => 0, ρ⟩ fun r => ∀ c : Dev nD,
      r.2.mem (c.tc.loc main_v21_0) = table (arr m c).dx ∧ r.2.mem (c.tc.loc main_v21_1) = table (arr m c).da
      ∧ r.2.mem (c.tc.loc main_v21_2) = table (arr m c).db ∧ r.2.mem (c.tc.loc main_v21_3) = table (arr m c).h
      ∧ r.2.mem (c.tc.loc main_v21_4) = table (arr m c).dxo ∧ r.2.mem (c.tc.loc main_v21_5) = row (arr m c).dg
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5) :=
  (θ_run _ _ _).mono (fun r h c => by
    have h0 := (h c).1 8
    have h1 := (h c).1 9
    have h2 := (h c).1 10
    have h3 := (h c).1 11
    have h4 := (h c).1 12
    have h5 := (h c).1 13
    rw [res_dx] at h0
    rw [res_da] at h1
    rw [res_db] at h2
    rw [res_h] at h3
    rw [res_dy] at h4
    rw [res_dg] at h5
    exact ⟨h0, h1, h2, h3, h4, h5, args_kept m h c⟩) (run_main m ρ)

end

/-! ## The kernel's frame at bit patterns: the two programs are the same text -/

set_option maxHeartbeats 4000000 in
theorem bodies_same : @Cert.Kernel2.defs₀ Bits _ Cert.Kernel2.Gen.facts = @Cert.Kernel2Ideal.defs₀ Bits _ Cert.Kernel2Ideal.Gen.facts := by
  refine congrArg Defs.onTc (funext fun l => funext fun a => ?_)
  match l, a with
  | ⟨0, _⟩, (t, s) => rfl

set_option maxHeartbeats 4000000 in
theorem defs_same : @Cert.Kernel2.defs Bits _ Cert.Kernel2.Gen.facts = @Cert.Kernel2Ideal.defs Bits _ Cert.Kernel2Ideal.Gen.facts :=
  congrArg (Pipeline.defs (@Cert.Kernel2Ideal.pcfgs Bits _)) bodies_same

set_option maxHeartbeats 4000000 in
theorem frame_kernel2 : @Cert.quiescent_Kernel2 Cert.Kernel2.Gen.facts := by
  intro m ρ _
  rw [defs_same]
  exact (θ_run (@Cert.Kernel2Ideal.defs Bits _ Cert.Kernel2Ideal.Gen.facts) _ _).mono (fun _ h => h) (frame_any (F := Bits) m ρ)

section
open Cert.Reference2Ideal Cert.Reference2Ideal.Gen Cert.Reference2Ideal.Read

/-- The layer and the cotangent of the reference's arguments. -/
def refArr (m : (ℓ : Loc nD τ sig) → Buf (Elt Ideal) ℓ) (c : Dev nD) : FfnBwd := BwdRef.arr (m (c.tc.loc main_arg0)) (m (c.tc.loc main_arg1))
  (m (c.tc.loc main_arg2)) (m (c.tc.loc main_arg3)) (m (c.tc.loc main_arg4)) (m (c.tc.loc main_arg5))

set_option maxHeartbeats 4000000 in
theorem reference_run (m : (ℓ : Loc nD τ sig) → Buf (Elt Ideal) ℓ) (ρ : Dev nD → PrngReg) (hw : ∀ c, (refArr m c).Real) :
    θ_run defs (onTc (τ := τ) (main (F := Ideal))) ⟨m, fun _ => 0, ρ⟩ fun r => ∀ c : Dev nD,
      r.2.mem (c.tc.loc main_v46) = table (refArr m c).dx ∧ r.2.mem (c.tc.loc main_v47) = table (refArr m c).da
      ∧ r.2.mem (c.tc.loc main_v48) = table (refArr m c).db ∧ r.2.mem (c.tc.loc main_v49) = table (refArr m c).h
      ∧ r.2.mem (c.tc.loc main_v50) = table (refArr m c).dxo ∧ r.2.mem (c.tc.loc main_v29) = row (refArr m c).dg
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5) :=
  (θ_run _ _ _).mono (fun r h c => by
    obtain ⟨h0, h1, h2, h3, h4, h5, hk⟩ := h c
    exact ⟨h0.trans ((val_main_v46_eq m c).trans (eq_table fun s j => BwdRef.dx (hw c) s j)),
      h1.trans ((val_main_v47_eq m c).trans (eq_table fun s f => BwdRef.da_bf (hw c) s f)),
      h2.trans ((val_main_v48_eq _ _ _ _ _).trans (eq_table fun s f => BwdRef.db_bf _ _ _ _ _ _ s f)),
      h3.trans ((val_main_v49_eq _ _).trans (eq_table fun s j => BwdRef.h_bf _ _ _ _ _ _ s j)),
      h4.trans ((val_main_v50_eq _).trans (eq_table fun s j => BwdRef.dxo_bf _ _ _ _ _ _ s j)),
      h5.trans ((val_main_v29_eq m c).trans (eq_row fun i j => BwdRef.dg (hw c) i j)), hk⟩) (Cert.Reference2Ideal.Value.run m ρ)

theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5))
      ∧ r.2.sem = fun _ => 0 :=
  (θ_run _ _ _).mono (fun r h => ⟨fun c => (h c).2.2.2.2.2.2, sem_eq_zero_of_no_sems (by decide) r.2⟩) (Cert.Reference2Ideal.Value.run m ρ)

end

theorem algebraic : @Cert.algebraic_Kernel2Ideal_Reference2Ideal_pre_ffn_finite Cert.Kernel2Ideal.Gen.facts Cert.Reference2Ideal.Gen.facts
    Cert.Pre_ffn_finite.Gen.facts := by
  intro m g m' g' hpre hargs
  have e (c) : refArr m' c = arr m c := by
    obtain ⟨e0, e1, e2, e3, e4, e5⟩ := hargs c
    rw [refArr, e0, e1, e2, e3, e4, e5, arr]
  refine ⟨fun c => table (arr m c).dx, fun c => table (arr m c).da, fun c => table (arr m c).db, fun c => table (arr m c).h,
    fun c => table (arr m c).dxo, fun c => row (arr m c).dg, kernel_run m g,
    (θ_run _ _ _).mono (fun r h c => ?_) (reference_run m' g' fun c => ?_)⟩
  · have hc := h c
    rw [e] at hc
    exact hc
  · rw [e]
    exact @real_args Cert.Pre_ffn_finite.Gen.facts _ _ _ _ _ _ (hpre c)

end Cert.Proof.Bwd

end
-- ==== Proof.Fwd.lean ====
/- The forward kernel: for each tile of 512 tokens, two steps over the halves of the hidden columns. Both write their half
   of the activations; the first keeps the normed rows and its part of the product with the third weight in scratch, the
   second adds its own part and the layer's input. -/
module

public import proofs.«01_k».proof.Proof.Swiglu
public import proofs.«01_k».proof.Proof.FwdRef
public import proofs.«01_k».proof.Proof.Gen.Kernel3Ideal.Value
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.Fwd

open Idealize.ShloMosaic Idealize.ShloMosaic.TcCoe Idealize.SL.Sem Cert.Kernel3Ideal Cert.Kernel3Ideal.Gen Idealize.ShloMosaic.Pointwise

variable (m : (ℓ : Loc nD τ sig) → Buf (Elt Ideal) ℓ) (c : Dev nD)

/-- The layer of the arguments. -/
def arr : Ffn := FwdRef.arr (m (c.tc.loc main_arg0)) (m (c.tc.loc main_arg1)) (m (c.tc.loc main_arg2)) (m (c.tc.loc main_arg3)) (m (c.tc.loc main_arg4))

theorem V_gate : V m c main_v1 = truncf (F := Ideal) .bf16 (transpose S2816x1024 [1, 0] (m (c.tc.loc main_arg2) : Vec Ideal S1024x2816 .f32)
    transposes_S1024x2816_S2816x1024_1_0) bitsLt_bf16_f32 := by
  unfold V
  after_reads_simp

theorem V_up : V m c main_v3 = truncf (F := Ideal) .bf16 (transpose S2816x1024 [1, 0] (m (c.tc.loc main_arg3) : Vec Ideal S1024x2816 .f32)
    transposes_S1024x2816_S2816x1024_1_0) bitsLt_bf16_f32 := by
  unfold V
  after_reads_simp

theorem V_down : V m c main_v4 = truncf (F := Ideal) .bf16 (m (c.tc.loc main_arg4) : Vec Ideal S2816x1024 .f32) bitsLt_bf16_f32 := by
  unfold V
  after_reads_simp

theorem idx (t : Fin grid0.N) : (win0_0.index t 0 = t.val / 2 ∧ win0_0.index t 1 = 0) ∧ (win0_1.index t 0 = 0 ∧ win0_1.index t 1 = 0)
    ∧ (win0_2.index t 0 = t.val % 2 ∧ win0_2.index t 1 = 0) ∧ (win0_3.index t 0 = t.val % 2 ∧ win0_3.index t 1 = 0)
    ∧ (win0_4.index t 0 = t.val % 2 ∧ win0_4.index t 1 = 0) ∧ (win0_5.index t 0 = t.val / 2 ∧ win0_5.index t 1 = 0)
    ∧ (win0_6.index t 0 = t.val / 2 ∧ win0_6.index t 1 = t.val % 2) ∧ (win0_7.index t 0 = t.val / 2 ∧ win0_7.index t 1 = t.val % 2)
    ∧ (win0_8.index t 0 = t.val / 2 ∧ win0_8.index t 1 = t.val % 2) ∧ t.val < 32 := by
  revert t; decide +kernel

theorem tile_lt (t : Fin cfg0.N) : t.val / 2 < 16 := Nat.div_lt_of_lt_mul (n := 2) (k := 16) (by have := idx t; omega)

theorem half_lt (t : Fin cfg0.N) : t.val % 2 < 2 := Nat.mod_lt _ (by decide)

theorem read_x (t : Fin cfg0.N) (r j) : iblk m c 0 t (ix2 r j) = (arr m c).x (tok (t.val / 2) r) j := by
  blk_simp [iblk]
  rw [V_main_arg0]
  refine congrArg (m (c.tc.loc main_arg0)) ?_
  blk_ext [idx t, tok_val (tile_lt t)]

theorem read_g (t : Fin cfg0.N) (j) : iblk m c 1 t (ix2 0 j) = (arr m c).g j := by
  blk_simp [iblk]
  rw [V_main_arg1]
  refine congrArg (m (c.tc.loc main_arg1)) ?_
  blk_ext [idx t]

theorem read_gate (t : Fin cfg0.N) (i j) : iblk m c 2 t (ix2 i j) = (arr m c).gate j (col (t.val % 2) i) := by
  blk_simp [iblk]
  rw [V_gate]
  pointwise []
  refine congrArg (m (c.tc.loc main_arg2)) ?_
  blk_ext [idx t, col_val (half_lt t)]

theorem read_up (t : Fin cfg0.N) (i j) : iblk m c 3 t (ix2 i j) = (arr m c).up j (col (t.val % 2) i) := by
  blk_simp [iblk]
  rw [V_up]
  pointwise []
  refine congrArg (m (c.tc.loc main_arg3)) ?_
  blk_ext [idx t, col_val (half_lt t)]

theorem read_down (t : Fin cfg0.N) (i j) : iblk m c 4 t (ix2 i j) = (arr m c).down (col (t.val % 2) i) j := by
  blk_simp [iblk]
  rw [V_down]
  refine congrArg (m (c.tc.loc main_arg4)) ?_
  blk_ext [idx t, col_val (half_lt t)]

/-- The normed rows of the point's tile. -/
def Rows (t : Fin cfg0.N) (H : Vec Ideal S512x1024 .bf16) : Prop := ∀ r j, H (ix2 r j) = (arr m c).h (tok (t.val / 2) r) j

theorem rows (t : Fin cfg0.N) : Rows m c t (k0_pay3 (iblk m c 0 t) (iblk m c 1 t)) := fun r j => by
  pointwise [k0_pay3]
  simp only [read_x, read_g]
  rfl

section
variable {m c} {t : Fin cfg0.N} {H : Vec Ideal S512x1024 .bf16} (hH : Rows m c t H)
include hH

theorem a_of (r i) : k0_pay4 H (iblk m c 2 t) (ix2 r i) = (arr m c).a (tok (t.val / 2) r) (col (t.val % 2) i) := by
  pointwise [k0_pay4]
  simp only [read_gate, hH r]
  rfl

theorem b_of (r i) : k0_pay5 H (iblk m c 3 t) (ix2 r i) = (arr m c).b (tok (t.val / 2) r) (col (t.val % 2) i) := by
  pointwise [k0_pay5]
  simp only [read_up, hH r]
  rfl

theorem s_of (r i) : k0_pay6 H (iblk m c 2 t) (iblk m c 3 t) (ix2 r i) = (arr m c).s (tok (t.val / 2) r) (col (t.val % 2) i) := by
  pointwise [k0_pay6]
  rw [a_of hH, b_of hH]
  rfl

theorem acc_of (A : Vec Ideal S512x1024 .f32) (r j) : k0_pay9 H (iblk m c 2 t) (iblk m c 3 t) A (iblk m c 4 t) (ix2 r j)
    = A (ix2 r j) + ∑ i, (arr m c).s (tok (t.val / 2) r) (col (t.val % 2) i) * (arr m c).down (col (t.val % 2) i) j := by
  pointwise [k0_pay9]
  simp only [s_of hH, read_down]

end

theorem even_or_odd (t : Fin cfg0.N) : (t.val % 2 = 0 ∧ ¬ t.val % 2 = 1) ∨ (¬ t.val % 2 = 0 ∧ t.val % 2 = 1) := by omega

/-- The first step leaves the tile's normed rows in scratch, -/
theorem rows_first (t : Fin cfg0.N) (h0 : t.val % 2 = 0) : Rows m c t (outsAt0 m c t.val t.isLt).2.2.2.2.2 := fun r j => by
  rw [outsAt0_A m c t h0 (by omega)]
  frame_out
  exact rows m c t r j

/-- which the second finds there. -/
theorem rows_second (t : Fin cfg0.N) (h1 : t.val % 2 = 1) :
    Rows m c t (outsAt0 m c (t.val - 1) (Nat.lt_of_le_of_lt (Nat.sub_le _ _) t.isLt)).2.2.2.2.2 := fun r j => by
  refine (rows_first m c ⟨t.val - 1, by omega⟩ (by show (t.val - 1) % 2 = 0; omega) r j).trans ?_
  show (arr m c).h (tok ((t.val - 1) / 2) r) j = _
  rw [show (t.val - 1) / 2 = t.val / 2 by omega]

theorem out_a (t : Fin cfg0.N) (y) : (outsAt0 m c t.val t.isLt).2.1 y = (arr m c).a (tok (t.val / 2) (y 0)) (col (t.val % 2) (y 1)) := by
  obtain ⟨r, i, rfl⟩ : ∃ (r : Fin 512) (i : Fin 1408), y = ix2 r i := ⟨y 0, y 1, eq_ix2 y⟩
  rcases even_or_odd t with ⟨h0, h1⟩ | ⟨h0, h1⟩
  · rw [outsAt0_A m c t h0 h1]
    frame_out
    exact a_of (rows m c t) r i
  · rw [outsAt0_B m c t h0 h1]
    frame_out
    simp only [read_unread_whole]
    exact a_of (rows_second m c t h1) r i

theorem out_b (t : Fin cfg0.N) (y) : (outsAt0 m c t.val t.isLt).2.2.1 y = (arr m c).b (tok (t.val / 2) (y 0)) (col (t.val % 2) (y 1)) := by
  obtain ⟨r, i, rfl⟩ : ∃ (r : Fin 512) (i : Fin 1408), y = ix2 r i := ⟨y 0, y 1, eq_ix2 y⟩
  rcases even_or_odd t with ⟨h0, h1⟩ | ⟨h0, h1⟩
  · rw [outsAt0_A m c t h0 h1]
    frame_out
    exact b_of (rows m c t) r i
  · rw [outsAt0_B m c t h0 h1]
    frame_out
    simp only [read_unread_whole]
    exact b_of (rows_second m c t h1) r i

theorem out_s (t : Fin cfg0.N) (y) : (outsAt0 m c t.val t.isLt).2.2.2.1 y = (arr m c).s (tok (t.val / 2) (y 0)) (col (t.val % 2) (y 1)) := by
  obtain ⟨r, i, rfl⟩ : ∃ (r : Fin 512) (i : Fin 1408), y = ix2 r i := ⟨y 0, y 1, eq_ix2 y⟩
  rcases even_or_odd t with ⟨h0, h1⟩ | ⟨h0, h1⟩
  · rw [outsAt0_A m c t h0 h1]
    frame_out
    exact s_of (rows m c t) r i
  · rw [outsAt0_B m c t h0 h1]
    frame_out
    simp only [read_unread_whole]
    exact s_of (rows_second m c t h1) r i

theorem acc_first (t : Fin cfg0.N) (h0 : t.val % 2 = 0) (r j) : (outsAt0 m c t.val t.isLt).2.2.2.2.1 (ix2 r j)
    = ∑ i, (arr m c).s (tok (t.val / 2) r) (col (t.val % 2) i) * (arr m c).down (col (t.val % 2) i) j := by
  rw [outsAt0_A m c t h0 (by omega)]
  frame_open
  simp (disch := decide) only [↓ View.readCov_skip, ↓ View.readCov_cons_toLoadRect, ↓ View.readCov_fill]
  frame_out
  refine (acc_of (rows m c t) _ r j).trans ((congrArg (· + _) ?_).trans (zero_add _))
  pointwise [k0_pay2]

theorem out_xo (t : Fin cfg0.N) (h1 : t.val % 2 = 1) (y) : (outsAt0 m c t.val t.isLt).1 y = (arr m c).xo (tok (t.val / 2) (y 0)) (y 1) := by
  obtain ⟨r, j, rfl⟩ : ∃ (r : Fin 512) (j : Fin 1024), y = ix2 r j := ⟨y 0, y 1, eq_ix2 y⟩
  rw [outsAt0_B m c t (by omega) h1]
  frame_open
  simp (disch := decide) only [↓ View.readCov_skip, ↓ View.readCov_cons_toLoadRect, ↓ View.readCov_fill]
  frame_out
  simp only [read_unread_whole]
  pointwise [k0_pay1]
  rw [read_x, acc_of (rows_second m c t h1), acc_first m c ⟨t.val - 1, by omega⟩ (by show (t.val - 1) % 2 = 0; omega)]
  refine congrArg (_ + ·) (Eq.trans ?_ (sum_cols _).symm)
  dsimp only
  rw [show (t.val - 1) / 2 = t.val / 2 by omega, show (t.val - 1) % 2 = 0 by omega, h1]

theorem arr_xo : (dats m 0 c).arrAt 5 cfg0.N = (fun y => (arr m c).xo (y 0) (y 1) : Vec Ideal S8192x1024 .f32) := by
  refine (dats m 0 c).arrAt_eq_of_covers 5 _ (by decide +kernel) fun t hf y => ?_
  blk_simp
  rw [after0_5]
  refine (out_xo m c t ((flush0_5 t).mp hf) y).trans (congrArg₂ (arr m c).xo (Fin.ext ?_) (Fin.ext ?_))
  · refine (tok_val (tile_lt t) _).trans ?_
    blk_simp [idx t]
  · blk_simp [idx t]

theorem arr_a : (dats m 0 c).arrAt 6 cfg0.N = (fun y => (arr m c).a (y 0) (y 1) : Vec Ideal S8192x2816 .bf16) := by
  refine (dats m 0 c).arrAt_eq_of_covers 6 _ (by decide +kernel) fun t hf y => ?_
  blk_simp
  rw [after0_6]
  refine (out_a m c t y).trans (congrArg₂ (arr m c).a (Fin.ext ?_) (Fin.ext ?_))
  · refine (tok_val (tile_lt t) _).trans ?_
    blk_simp [idx t]
  · refine (col_val (half_lt t) _).trans ?_
    blk_simp [idx t]

theorem arr_b : (dats m 0 c).arrAt 7 cfg0.N = (fun y => (arr m c).b (y 0) (y 1) : Vec Ideal S8192x2816 .bf16) := by
  refine (dats m 0 c).arrAt_eq_of_covers 7 _ (by decide +kernel) fun t hf y => ?_
  blk_simp
  rw [after0_7]
  refine (out_b m c t y).trans (congrArg₂ (arr m c).b (Fin.ext ?_) (Fin.ext ?_))
  · refine (tok_val (tile_lt t) _).trans ?_
    blk_simp [idx t]
  · refine (col_val (half_lt t) _).trans ?_
    blk_simp [idx t]

theorem arr_s : (dats m 0 c).arrAt 8 cfg0.N = (fun y => (arr m c).s (y 0) (y 1) : Vec Ideal S8192x2816 .bf16) := by
  refine (dats m 0 c).arrAt_eq_of_covers 8 _ (by decide +kernel) fun t hf y => ?_
  blk_simp
  rw [after0_8]
  refine (out_s m c t y).trans (congrArg₂ (arr m c).s (Fin.ext ?_) (Fin.ext ?_))
  · refine (tok_val (tile_lt t) _).trans ?_
    blk_simp [idx t]
  · refine (col_val (half_lt t) _).trans ?_
    blk_simp [idx t]

end Cert.Proof.Fwd
-- ==== Proof.FwdRuns.lean ====
/- The forward programs' runs, each to the same four tables. -/
module

public import proofs.«01_k».proof.Defs
public import proofs.«01_k».proof.Proof.Fwd
public import proofs.«01_k».proof.Proof.Gen.Reference3Ideal.Run

@[expose] public section

set_option maxRecDepth 16384

noncomputable section

namespace Cert.Proof.Fwd

open Idealize.ShloMosaic Idealize.ShloMosaic.TcCoe Idealize.SL.Sem

section
open Cert.Kernel3Ideal Cert.Kernel3Ideal.Gen
variable (m : (ℓ : Loc nD τ sig) → Buf (Elt Ideal) ℓ) (c : Dev nD)

theorem res_xo : (dats m 0 c).arrAt 5 cfg0.N = table (arr m c).xo := arr_xo m c
theorem res_a : (dats m 0 c).arrAt 6 cfg0.N = table (arr m c).a := arr_a m c
theorem res_b : (dats m 0 c).arrAt 7 cfg0.N = table (arr m c).b := arr_b m c
theorem res_s : (dats m 0 c).arrAt 8 cfg0.N = table (arr m c).s := arr_s m c

set_option maxHeartbeats 4000000 in
theorem kernel_run (ρ : Dev nD → PrngReg) :
    θ_run defs (onTc (τ := τ) (main (F := Ideal))) ⟨m, fun _ => 0, ρ⟩ fun r => ∀ c : Dev nD,
      r.2.mem (c.tc.loc main_v5_0) = table (arr m c).xo ∧ r.2.mem (c.tc.loc main_v5_1) = table (arr m c).a
      ∧ r.2.mem (c.tc.loc main_v5_2) = table (arr m c).b ∧ r.2.mem (c.tc.loc main_v5_3) = table (arr m c).s
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  (θ_run _ _ _).mono (fun r h c => by
    obtain ⟨h0, h1, h2, h3, hk⟩ := h c
    rw [res_xo] at h0
    rw [res_a] at h1
    rw [res_b] at h2
    rw [res_s] at h3
    exact ⟨h0, h1, h2, h3, hk⟩) (Cert.Kernel3Ideal.Value.run_blocks m ρ)

end

section
open Cert.Reference3Ideal Cert.Reference3Ideal.Gen Cert.Reference3Ideal.Read

/-- The layer of the reference's arguments. -/
def refArr (m : (ℓ : Loc nD τ sig) → Buf (Elt Ideal) ℓ) (c : Dev nD) : Ffn := FwdRef.arr (m (c.tc.loc main_arg0)) (m (c.tc.loc main_arg1))
  (m (c.tc.loc main_arg2)) (m (c.tc.loc main_arg3)) (m (c.tc.loc main_arg4))

set_option maxHeartbeats 4000000 in
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v17) = table (refArr m c).xo ∧ r.2.mem (c.tc.loc main_v18) = table (refArr m c).a
      ∧ r.2.mem (c.tc.loc main_v19) = table (refArr m c).b ∧ r.2.mem (c.tc.loc main_v20) = table (refArr m c).s
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  (θ_run _ _ _).mono (fun r h c => by
    obtain ⟨h0, h1, h2, h3, hk⟩ := h c
    exact ⟨h0.trans ((val_main_v17_eq _ _ _ _ _).trans (eq_table fun s j => FwdRef.xo _ _ _ _ _ s j)),
      h1.trans ((val_main_v18_eq _ _ _).trans (eq_table fun s j => FwdRef.a_bf _ _ _ _ _ s j)),
      h2.trans ((val_main_v19_eq _ _ _).trans (eq_table fun s j => FwdRef.b_bf _ _ _ _ _ s j)),
      h3.trans ((val_main_v20_eq _ _ _ _).trans (eq_table fun s j => FwdRef.s_bf _ _ _ _ _ s j)), hk⟩) (Cert.Reference3Ideal.Value.run m ρ)

theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) ∧ r.2.sem = fun _ => 0 :=
  (θ_run _ _ _).mono (fun r h => ⟨fun c => (h c).2.2.2.2, sem_eq_zero_of_no_sems (by decide) r.2⟩) (Cert.Reference3Ideal.Value.run m ρ)

end

theorem algebraic : @Cert.algebraic_Kernel3Ideal_Reference3Ideal Cert.Kernel3Ideal.Gen.facts Cert.Reference3Ideal.Gen.facts := by
  intro m g m' g' _ hargs
  refine ⟨fun c => table (arr m c).xo, fun c => table (arr m c).a, fun c => table (arr m c).b, fun c => table (arr m c).s, kernel_run m g,
    (θ_run _ _ _).mono (fun r h c => ?_) (reference_run m' g')⟩
  have e : refArr m' c = arr m c := by
    obtain ⟨e0, e1, e2, e3, e4⟩ := hargs c
    rw [refArr, e0, e1, e2, e3, e4, arr]
  have hc := h c
  rw [e] at hc
  exact hc

end Cert.Proof.Fwd

end
-- ==== Proof.Wgrad.lean ====
/- The gradient of a weight: the kernel walks the 8192 tokens in eight steps for each half of the columns, adding a step's
   product into a scratch that it writes out after the eighth; the sum over all tokens is the reference's product. -/
module

public import proofs.«01_k».proof.Defs
public import proofs.«01_k».proof.Proof.Swiglu
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.Wgrad

open Idealize.ShloMosaic Idealize.ShloMosaic.TcCoe Idealize.SL.Sem Cert.Kernel4Ideal Cert.Kernel4Ideal.Gen Idealize.ShloMosaic.Pointwise

/-- Token `r` of step `k`. -/
def row (k : ℕ) (r : Fin 1024) : Fin 8192 := Fin.ofNat 8192 (k * 1024 + r)

theorem row_val {k : ℕ} (hk : k < 8) (r : Fin 1024) : (row k r).val = k * 1024 + r := Nat.mod_eq_of_lt (by omega)

/-- Every token is a token of a step. -/
theorem sum_rows (f : Fin 8192 → EReal) : ∑ s, f s = ∑ k ∈ Finset.range 8, ∑ r, f (row k r) := by
  rw [← Fin.sum_univ_eq_sum_range (fun k => ∑ r, f (row k r)), ← Fintype.sum_prod_type' (f := fun (k : Fin 8) r => f (row k r))]
  refine (Fintype.sum_equiv (finProdFinEquiv (m := 8) (n := 1024)) _ _ fun x => congrArg f (Fin.ext ?_)).symm
  rw [row_val x.1.isLt]
  simp only [finProdFinEquiv_apply_val]
  omega

variable (m : (ℓ : Loc nD τ sig) → Buf (Elt Ideal) ℓ) (c : Dev nD)

/-- The two arguments by their entries. -/
def lhs (s : Fin 8192) (f : Fin 2816) : EReal := (m (c.tc.loc main_arg0) : Vec Ideal S8192x2816 .f32) (ix2 s f)
def rhs (s : Fin 8192) (j : Fin 1024) : EReal := (m (c.tc.loc main_arg1) : Vec Ideal S8192x1024 .f32) (ix2 s j)

/-- What a step adds, and the whole. -/
def part (k : ℕ) (f : Fin 2816) (j : Fin 1024) : EReal := ∑ r, lhs m c (row k r) f * rhs m c (row k r) j
def grad (f : Fin 2816) (j : Fin 1024) : EReal := ∑ s, lhs m c s f * rhs m c s j

theorem V_lhs : V m c main_v0 = truncf (F := Ideal) .bf16 (m (c.tc.loc main_arg0) : Vec Ideal S8192x2816 .f32) bitsLt_bf16_f32 := by
  unfold V
  after_reads_simp

theorem V_rhs : V m c main_v1 = truncf (F := Ideal) .bf16 (m (c.tc.loc main_arg1) : Vec Ideal S8192x1024 .f32) bitsLt_bf16_f32 := by
  unfold V
  after_reads_simp

theorem idx (t : Fin grid0.N) : (win0_0.index t 0 = t.val % 8 ∧ win0_0.index t 1 = t.val / 8) ∧ (win0_1.index t 0 = t.val % 8 ∧ win0_1.index t 1 = 0)
    ∧ (win0_2.index t 0 = t.val / 8 ∧ win0_2.index t 1 = 0) ∧ t.val < 16 := by
  revert t; decide +kernel

theorem read_lhs (t : Fin cfg0.N) (r i) : iblk m c 0 t (ix2 r i) = lhs m c (row (t.val % 8) r) (col (t.val / 8) i) := by
  have h := idx t
  blk_simp [iblk]
  rw [V_lhs]
  refine congrArg (m (c.tc.loc main_arg0)) ?_
  blk_ext [idx t, row_val (Nat.mod_lt t.val (by decide : 0 < 8)), col_val (show t.val / 8 < 2 by omega)]

theorem read_rhs (t : Fin cfg0.N) (r j) : iblk m c 1 t (ix2 r j) = rhs m c (row (t.val % 8) r) j := by
  blk_simp [iblk]
  rw [V_rhs]
  refine congrArg (m (c.tc.loc main_arg1)) ?_
  blk_ext [idx t, row_val (Nat.mod_lt t.val (by decide : 0 < 8))]

/-- One step's product added to what the scratch held. -/
theorem step_sum (t : Fin cfg0.N) (A : Vec Ideal S1408x1024 .f32) (i j) :
    k0_pay2 A (iblk m c 0 t) (iblk m c 1 t) (ix2 i j) = A (ix2 i j) + part m c (t.val % 8) (col (t.val / 8) i) j := by
  pointwise [k0_pay2]
  simp only [read_lhs, read_rhs]
  rfl

theorem acc_first (t : Fin cfg0.N) (h0 : t.val % 8 = 0) (h1 : ¬ t.val % 8 = 7) (i j) :
    (outsAt0 m c t.val t.isLt).2 (ix2 i j) = 0 + part m c (t.val % 8) (col (t.val / 8) i) j := by
  rw [outsAt0_A m c t h0 h1]
  frame_open
  simp (disch := decide) only [↓ View.readCov_skip, ↓ View.readCov_cons_toLoadRect, ↓ View.readCov_fill]
  frame_out
  refine (step_sum m c t _ i j).trans (congrArg (· + _) ?_)
  pointwise [k0_pay1]

theorem acc_next (t : Fin cfg0.N) (h0 : ¬ t.val % 8 = 0) (i j) :
    (outsAt0 m c t.val t.isLt).2 (ix2 i j) = (outsAt0 m c (t.val - 1) (Nat.lt_of_le_of_lt (Nat.sub_le _ _) t.isLt)).2 (ix2 i j)
      + part m c (t.val % 8) (col (t.val / 8) i) j := by
  by_cases h1 : t.val % 8 = 7
  on_goal 1 => rw [outsAt0_C m c t h0 h1]
  on_goal 2 => rw [outsAt0_B m c t h0 h1]
  all_goals
    frame_out
    simp only [read_unread_whole]
    exact step_sum m c t _ i j

theorem acc (n : ℕ) (hn : n < cfg0.N) (i j) :
    (outsAt0 m c n hn).2 (ix2 i j) = ∑ k ∈ Finset.range (n % 8 + 1), part m c k (col (n / 8) i) j := by
  induction n with
  | zero =>
    rw [acc_first m c ⟨0, hn⟩ (Nat.zero_mod _) (by show ¬ 0 % 8 = 7; omega), zero_add]
    exact (Finset.sum_range_one fun k => part m c k (col (0 / 8) i) j).symm
  | succ n ih =>
    by_cases h0 : (n + 1) % 8 = 0
    · rw [acc_first m c ⟨n + 1, hn⟩ h0 (by show ¬ (n + 1) % 8 = 7; omega), zero_add]
      show part m c ((n + 1) % 8) _ _ = _
      rw [h0]
      exact (Finset.sum_range_one fun k => part m c k (col ((n + 1) / 8) i) j).symm
    · rw [acc_next m c ⟨n + 1, hn⟩ h0]
      have e : (n + 1) % 8 = n % 8 + 1 := by omega
      have e' : (n + 1) / 8 = n / 8 := by omega
      show (outsAt0 m c n _).2 (ix2 i j) + part m c ((n + 1) % 8) (col ((n + 1) / 8) i) j = _
      rw [ih, e, e', Finset.sum_range_succ _ (n % 8 + 1)]

/-- What the eighth step writes out. -/
theorem out_grad (t : Fin cfg0.N) (h1 : t.val % 8 = 7) (y) :
    (outsAt0 m c t.val t.isLt).1 y = grad m c (col (t.val / 8) (y 0)) (y 1) := by
  obtain ⟨i, j, rfl⟩ : ∃ (i : Fin 1408) (j : Fin 1024), y = ix2 i j := ⟨y 0, y 1, eq_ix2 y⟩
  have e := acc m c t.val t.isLt i j
  rw [h1] at e
  replace e := e.trans (sum_rows fun s => lhs m c s (col (t.val / 8) i) * rhs m c s j).symm
  rw [outsAt0_C m c t (by omega) h1] at e ⊢
  refine Eq.trans ?_ e
  frame_open
  simp (disch := decide) only [↓ View.readCov_skip, ↓ View.readCov_cons_toLoadRect, ↓ View.readCov_fill]
  frame_out
  rfl

theorem arr_grad : (dats m 0 c).arrAt 2 cfg0.N = (fun y => grad m c (y 0) (y 1) : Vec Ideal S2816x1024 .bf16) := by
  refine (dats m 0 c).arrAt_eq_of_covers 2 _ (by decide +kernel) fun t hf y => ?_
  blk_simp
  rw [after0_2]
  refine (out_grad m c t ((flush0_2 t).mp hf) y).trans (congrArg₂ (grad m c) (Fin.ext ?_) (Fin.ext ?_))
  · refine (col_val (Nat.div_lt_of_lt_mul (n := 8) (k := 2) (idx t).2.2.2) _).trans ?_
    blk_simp [idx t]
  · blk_simp [idx t]

/-- The gradient as an array. -/
def result : (⟨2, ![2816, 1024]⟩ : Shape).Idx → EReal := fun y => grad m c (y 0) (y 1)

theorem kernel_run (ρ : Dev nD → PrngReg) :
    θ_run defs (onTc (τ := τ) (main (F := Ideal))) ⟨m, fun _ => 0, ρ⟩ fun r => ∀ c : Dev nD, r.2.mem (c.tc.loc main_v2) = result m c
      ∧ r.2.mem (c.tc.loc main_arg0) = m (c.tc.loc main_arg0) ∧ r.2.mem (c.tc.loc main_arg1) = m (c.tc.loc main_arg1) :=
  (θ_run _ _ _).mono (fun r h c => by
    obtain ⟨h0, hk⟩ := h c
    rw [show (dats m 0 c).arrAt 2 cfg0.N = result m c from arr_grad m c] at h0
    exact ⟨h0, hk⟩) (Cert.Kernel4Ideal.Value.run_blocks m ρ)

/-- The reference's product, transposed, entry by entry. -/
theorem reference_value (x0 : Vec Ideal S8192x2816 .f32) (x1 : Vec Ideal S8192x1024 .f32) (f j) :
    truncf (F := Ideal) .bf16 (transpose Cert.Reference4Ideal.S2816x1024 [1, 0] (Host.dotGeneral (F := Ideal) (φ₁ := .f32) (φ₂ := .f32) Cert.Reference4Ideal.dot_S8192x1024_S8192x2816_S1024x2816_0_0_1_1_n_n none x1 x0)
      Cert.Reference4Ideal.Facts₀.transposes_S1024x2816_S2816x1024_1_0) Cert.Reference4Ideal.Facts₀.bitsLt_bf16_f32 (ix2 f j) = ∑ s, x0 (ix2 s f) * x1 (ix2 s j) := by
  pointwise []
  exact Finset.sum_congr rfl fun s _ => mul_comm _ _

theorem reference_frame (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ fun r => (∀ c : Dev Cert.Reference4Ideal.nD,
      r.2.mem (c.tc.loc Cert.Reference4Ideal.main_arg0) = m (c.tc.loc Cert.Reference4Ideal.main_arg0)
      ∧ r.2.mem (c.tc.loc Cert.Reference4Ideal.main_arg1) = m (c.tc.loc Cert.Reference4Ideal.main_arg1)) ∧ r.2.sem = fun _ => 0 :=
  (θ_run _ _ _).mono (fun r h => ⟨fun c => (h c).2, sem_eq_zero_of_no_sems (by decide) r.2⟩) (Cert.Reference4Ideal.Value.run m ρ)

theorem algebraic : @Cert.algebraic_Kernel4Ideal_Reference4Ideal Cert.Kernel4Ideal.Gen.facts Cert.Reference4Ideal.Gen.facts := by
  intro m g m' g' _ hargs
  refine ⟨fun c => result m c, kernel_run m g, (θ_run _ _ _).mono (fun r h c => ?_) (Cert.Reference4Ideal.Value.run m' g')⟩
  obtain ⟨h0, hk⟩ := h c
  obtain ⟨e0, e1⟩ := hargs c
  refine ⟨h0.trans ?_, hk⟩
  rw [e0, e1]
  exact funext fun y => (congrArg _ (eq_ix2 y)).trans (reference_value _ _ (y 0) (y 1))

end Cert.Proof.Wgrad

end
-- ==== Proof.WgradPool.lean ====
/- The gradient of a square weight: one block of 1024 by 1024, to which eight steps add their tokens' products. -/
module

public import proofs.«01_k».proof.Defs
public import proofs.«01_k».proof.Proof.Wgrad
public import proofs.«01_k».proof.Proof.Gen.Kernel5Ideal.Value
public import proofs.«01_k».proof.Proof.Gen.Reference5Ideal.Run

@[expose] public section

set_option maxRecDepth 16384

noncomputable section

namespace Cert.Proof.WgradPool

open Idealize.ShloMosaic Idealize.ShloMosaic.TcCoe Idealize.SL.Sem Idealize.ShloMosaic.Pointwise
open Cert.Proof.Wgrad (row row_val sum_rows)

section
open Cert.Kernel5Ideal Cert.Kernel5Ideal.Gen
variable (m : (ℓ : Loc nD τ sig) → Buf (Elt Ideal) ℓ) (c : Dev nD)

/-- The two arguments by their entries, -/
def lhs (s : Fin 8192) (i : Fin 1024) : EReal := (m (c.tc.loc main_arg0) : Vec Ideal S8192x1024 .f32) (ix2 s i)
def rhs (s : Fin 8192) (j : Fin 1024) : EReal := (m (c.tc.loc main_arg1) : Vec Ideal S8192x1024 .f32) (ix2 s j)

/-- and token `s`'s product. -/
def term (i j : Fin 1024) (s : Fin 8192) : EReal := lhs m c s i * rhs m c s j

theorem idx (t : Fin grid0.N) : (win0_0.index t 0 = t.val ∧ win0_0.index t 1 = 0) ∧ (win0_1.index t 0 = t.val ∧ win0_1.index t 1 = 0)
    ∧ (win0_2.index t 0 = 0 ∧ win0_2.index t 1 = 0) ∧ t.val < 8 := by
  revert t; decide +kernel

theorem V_lhs : V m c main_v0 = truncf (F := Ideal) .bf16 (m (c.tc.loc main_arg0) : Vec Ideal S8192x1024 .f32) bitsLt_bf16_f32 := by
  unfold V
  after_reads_simp

theorem V_rhs : V m c main_v1 = truncf (F := Ideal) .bf16 (m (c.tc.loc main_arg1) : Vec Ideal S8192x1024 .f32) bitsLt_bf16_f32 := by
  unfold V
  after_reads_simp

theorem read_lhs (t : Fin cfg0.N) (r i) : iblk m c 0 t (ix2 r i) = lhs m c (row t.val r) i := by
  blk_simp [iblk]
  rw [V_lhs]
  refine congrArg (m (c.tc.loc main_arg0)) ?_
  blk_ext [idx t, row_val (idx t).2.2.2]

theorem read_rhs (t : Fin cfg0.N) (r j) : iblk m c 1 t (ix2 r j) = rhs m c (row t.val r) j := by
  blk_simp [iblk]
  rw [V_rhs]
  refine congrArg (m (c.tc.loc main_arg1)) ?_
  blk_ext [idx t, row_val (idx t).2.2.2]

theorem step_sum (t : Fin cfg0.N) (A : Vec Ideal S1024x1024 .f32) (i j) :
    k0_pay2 A (iblk m c 0 t) (iblk m c 1 t) (ix2 i j) = A (ix2 i j) + ∑ r, term m c i j (row t.val r) := by
  pointwise [k0_pay2]
  simp only [read_lhs, read_rhs]
  rfl

/-- The scratch after the first step, -/
theorem acc_zero (t : Fin cfg0.N) (h : t.val = 0) (i j) : (outsAt0 m c t.val t.isLt).2 (ix2 i j) = ∑ r, term m c i j (row 0 r) := by
  rw [outsAt0_A m c t (by omega) (by omega)]
  frame_open
  simp (disch := decide) only [↓ View.readCov_skip, ↓ View.readCov_cons_toLoadRect, ↓ View.readCov_fill]
  frame_out
  refine (step_sum m c t _ i j).trans ?_
  rw [h]
  refine (congrArg (· + _) ?_).trans (zero_add _)
  pointwise [k0_pay1]

/-- and what a later one adds. -/
theorem acc_add (t : Fin cfg0.N) (h : t.val ≠ 0) (i j) : (outsAt0 m c t.val t.isLt).2 (ix2 i j)
    = (outsAt0 m c (t.val - 1) (Nat.lt_of_le_of_lt (Nat.sub_le _ _) t.isLt)).2 (ix2 i j) + ∑ r, term m c i j (row t.val r) := by
  have h0 : ¬ t.val % 8 = 0 := by have := idx t; omega
  by_cases h1 : t.val % 8 = 7
  on_goal 1 => rw [outsAt0_C m c t h0 h1]
  on_goal 2 => rw [outsAt0_B m c t h0 h1]
  all_goals
    frame_out
    simp only [read_unread_whole]
    exact step_sum m c t _ i j

theorem acc (i j) (n : ℕ) : ∀ hn : n < cfg0.N, (outsAt0 m c n hn).2 (ix2 i j) = ∑ k ∈ Finset.range (n + 1), ∑ r, term m c i j (row k r) := by
  induction n with
  | zero => exact fun hn => (acc_zero m c ⟨0, hn⟩ rfl i j).trans (Finset.sum_range_one fun k => ∑ r, term m c i j (row k r)).symm
  | succ n ih =>
    intro hn
    rw [Finset.sum_range_succ _ (n + 1), ← ih (Nat.lt_of_succ_lt hn)]
    exact acc_add m c ⟨n + 1, hn⟩ (Nat.succ_ne_zero n) i j

/-- The gradient as an array. -/
def grad : (⟨2, ![1024, 1024]⟩ : Shape).Idx → EReal := fun y => ∑ s, term m c (y 0) (y 1) s

theorem out_grad (t : Fin cfg0.N) (h1 : t.val % 8 = 7) (y) : (outsAt0 m c t.val t.isLt).1 y = grad m c y := by
  obtain ⟨i, j, rfl⟩ : ∃ (i : Fin 1024) (j : Fin 1024), y = ix2 i j := ⟨y 0, y 1, eq_ix2 y⟩
  have e := acc m c i j t.val t.isLt
  rw [show t.val + 1 = 8 by have := idx t; omega] at e
  replace e := e.trans (sum_rows (term m c i j)).symm
  rw [outsAt0_C m c t (by omega) h1] at e ⊢
  refine Eq.trans ?_ e
  frame_open
  simp (disch := decide) only [↓ View.readCov_skip, ↓ View.readCov_cons_toLoadRect, ↓ View.readCov_fill]
  frame_out
  rfl

theorem arr_grad : (dats m 0 c).arrAt 2 cfg0.N = grad m c := by
  refine (dats m 0 c).arrAt_eq_of_covers 2 (grad m c : Vec Ideal S1024x1024 .bf16) (by decide +kernel) fun t hf y => ?_
  blk_simp
  rw [after0_2]
  refine (out_grad m c t ((flush0_2 t).mp hf) y).trans (congrArg (grad m c) ?_)
  blk_ext [idx t]

theorem kernel_run (ρ : Dev nD → PrngReg) :
    θ_run defs (onTc (τ := τ) (main (F := Ideal))) ⟨m, fun _ => 0, ρ⟩ fun r => ∀ c : Dev nD, r.2.mem (c.tc.loc main_v2) = grad m c
      ∧ r.2.mem (c.tc.loc main_arg0) = m (c.tc.loc main_arg0) ∧ r.2.mem (c.tc.loc main_arg1) = m (c.tc.loc main_arg1) :=
  (θ_run _ _ _).mono (fun r h c => by
    obtain ⟨h0, hk⟩ := h c
    rw [arr_grad] at h0
    exact ⟨h0, hk⟩) (Cert.Kernel5Ideal.Value.run_blocks m ρ)

end

section
open Cert.Reference5Ideal

theorem reference_value (x0 x1 : Vec Ideal S8192x1024 .f32) (i j) :
    truncf (F := Ideal) .bf16 (transpose S1024x1024 [1, 0] (Host.dotGeneral (F := Ideal) (φ₁ := .f32) (φ₂ := .f32) dot_S8192x1024_S8192x1024_S1024x1024_0_0_1_1_n_n none x1 x0)
      Facts₀.transposes_S1024x1024_S1024x1024_1_0) Facts₀.bitsLt_bf16_f32 (ix2 i j) = ∑ s, x0 (ix2 s i) * x1 (ix2 s j) := by
  pointwise []
  exact Finset.sum_congr rfl fun s _ => mul_comm _ _

theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)) ∧ r.2.sem = fun _ => 0 :=
  (θ_run _ _ _).mono (fun r h => ⟨fun c => (h c).2, sem_eq_zero_of_no_sems (by decide) r.2⟩) (Cert.Reference5Ideal.Value.run m ρ)

end

theorem algebraic : @Cert.algebraic_Kernel5Ideal_Reference5Ideal Cert.Kernel5Ideal.Gen.facts Cert.Reference5Ideal.Gen.facts := by
  intro m g m' g' _ hargs
  refine ⟨fun c => grad m c, kernel_run m g, (θ_run _ _ _).mono (fun r h c => ?_) (Cert.Reference5Ideal.Value.run m' g')⟩
  obtain ⟨h0, hk⟩ := h c
  obtain ⟨e0, e1⟩ := hargs c
  refine ⟨h0.trans ?_, hk⟩
  rw [e0, e1]
  exact funext fun y => (congrArg _ (eq_ix2 y)).trans (reference_value _ _ (y 0) (y 1))

end Cert.Proof.WgradPool

end
-- ==== Proof.WgradGroups.lean ====
/- The gradient of the group weights: for each of the four channel groups, four steps of 2048 tokens add their products into a
   scratch that is written out after the fourth; the reference's product has the groups as a batch axis. -/
module

public import proofs.«01_k».proof.Defs
public import proofs.«01_k».proof.Proof.Spec
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.WgradGroups

open Idealize.ShloMosaic Idealize.ShloMosaic.TcCoe Idealize.SL.Sem Idealize.ShloMosaic.Pointwise

/-- Token `r` of step `k`, and lane `e` of group `n`. -/
def tok (k : ℕ) (r : Fin 2048) : Fin 8192 := Fin.ofNat 8192 (k * 2048 + r)
def ch (n : ℕ) (e : Fin 256) : Fin 1024 := lane (Fin.ofNat 4 n) e

theorem tok_val {k : ℕ} (hk : k < 4) (r : Fin 2048) : (tok k r).val = k * 2048 + r := Nat.mod_eq_of_lt (by omega)

theorem ch_val {n : ℕ} (hn : n < 4) (e : Fin 256) : (ch n e).val = n * 256 + e := by
  show n % 4 * 256 + e.val = _
  rw [Nat.mod_eq_of_lt hn]

/-- Every token is a token of a step. -/
theorem sum_toks (f : Fin 8192 → EReal) : ∑ s, f s = ∑ k ∈ Finset.range 4, ∑ r, f (tok k r) := by
  rw [← Fin.sum_univ_eq_sum_range (fun k => ∑ r, f (tok k r)), ← Fintype.sum_prod_type' (f := fun (k : Fin 4) r => f (tok k r))]
  refine (Fintype.sum_equiv (finProdFinEquiv (m := 4) (n := 2048)) _ _ fun x => congrArg f (Fin.ext ?_)).symm
  rw [tok_val x.1.isLt]
  simp only [finProdFinEquiv_apply_val]
  omega

section
open Cert.Kernel7Ideal Cert.Kernel7Ideal.Gen
variable (m : (ℓ : Loc nD τ sig) → Buf (Elt Ideal) ℓ) (c : Dev nD)

/-- The pooled differences and the gradient that reaches the group product. -/
def p (s : Fin 8192) (j : Fin 1024) : EReal := (m (c.tc.loc main_arg0) : Vec Ideal S8192x1024 .f32) (ix2 s j)
def dz (s : Fin 8192) (j : Fin 1024) : EReal := (m (c.tc.loc main_arg1) : Vec Ideal S8192x1024 .f32) (ix2 s j)

/-- What step `k` of group `n` adds, and the gradient. -/
def part (n k : ℕ) (i j : Fin 256) : EReal := ∑ r, p m c (tok k r) (ch n i) * dz m c (tok k r) (ch n j)
def grad (g : Fin 4) (i j : Fin 256) : EReal := ∑ s, p m c s (lane g i) * dz m c s (lane g j)

theorem idx (t : Fin grid0.N) : (win0_0.index t 0 = t.val % 4 ∧ win0_0.index t 1 = t.val / 4) ∧ (win0_1.index t 0 = t.val % 4 ∧ win0_1.index t 1 = t.val / 4)
    ∧ (win0_2.index t 0 = t.val / 4 ∧ win0_2.index t 1 = 0 ∧ win0_2.index t 2 = 0) ∧ t.val % 4 < 4 ∧ t.val / 4 < 4 := by
  revert t; decide +kernel

theorem V_p : V m c main_v0 = truncf (F := Ideal) .bf16 (m (c.tc.loc main_arg0) : Vec Ideal S8192x1024 .f32) bitsLt_bf16_f32 := by
  unfold V
  after_reads_simp

theorem V_dz : V m c main_v1 = truncf (F := Ideal) .bf16 (m (c.tc.loc main_arg1) : Vec Ideal S8192x1024 .f32) bitsLt_bf16_f32 := by
  unfold V
  after_reads_simp

theorem read_p (t : Fin cfg0.N) (r i) : iblk m c 0 t (ix2 r i) = p m c (tok (t.val % 4) r) (ch (t.val / 4) i) := by
  blk_simp [iblk]
  rw [V_p]
  refine congrArg (m (c.tc.loc main_arg0)) ?_
  blk_ext [idx t, tok_val (idx t).2.2.2.1, ch_val (idx t).2.2.2.2]

theorem read_dz (t : Fin cfg0.N) (r j) : iblk m c 1 t (ix2 r j) = dz m c (tok (t.val % 4) r) (ch (t.val / 4) j) := by
  blk_simp [iblk]
  rw [V_dz]
  refine congrArg (m (c.tc.loc main_arg1)) ?_
  blk_ext [idx t, tok_val (idx t).2.2.2.1, ch_val (idx t).2.2.2.2]

theorem step_sum (t : Fin cfg0.N) (A : Vec Ideal S256x256 .f32) (i j) :
    k0_pay2 A (iblk m c 0 t) (iblk m c 1 t) (ix2 i j) = A (ix2 i j) + part m c (t.val / 4) (t.val % 4) i j := by
  pointwise [k0_pay2]
  simp only [read_p, read_dz]
  rfl

/-- A group's first step sets the scratch, -/
theorem acc_first (t : Fin cfg0.N) (h0 : t.val % 4 = 0) (i j) : (outsAt0 m c t.val t.isLt).2 (ix2 i j) = part m c (t.val / 4) 0 i j := by
  rw [outsAt0_A m c t h0 (by omega)]
  frame_open
  simp (disch := decide) only [↓ View.readCov_skip, ↓ View.readCov_cons_toLoadRect, ↓ View.readCov_fill]
  frame_out
  refine (step_sum m c t _ i j).trans ?_
  rw [h0]
  refine (congrArg (· + _) ?_).trans (zero_add _)
  pointwise [k0_pay1]

/-- the later ones add to it. -/
theorem acc_next (t : Fin cfg0.N) (h0 : ¬ t.val % 4 = 0) (i j) : (outsAt0 m c t.val t.isLt).2 (ix2 i j)
    = (outsAt0 m c (t.val - 1) (Nat.lt_of_le_of_lt (Nat.sub_le _ _) t.isLt)).2 (ix2 i j) + part m c (t.val / 4) (t.val % 4) i j := by
  by_cases h1 : t.val % 4 = 3
  on_goal 1 => rw [outsAt0_C m c t h0 h1]
  on_goal 2 => rw [outsAt0_B m c t h0 h1]
  all_goals
    frame_out
    simp only [read_unread_whole]
    exact step_sum m c t _ i j

theorem acc (i j) (n : ℕ) : ∀ hn : n < cfg0.N, (outsAt0 m c n hn).2 (ix2 i j) = ∑ k ∈ Finset.range (n % 4 + 1), part m c (n / 4) k i j := by
  induction n with
  | zero => exact fun hn => (acc_first m c ⟨0, hn⟩ (Nat.zero_mod _) i j).trans (Finset.sum_range_one fun k => part m c (0 / 4) k i j).symm
  | succ n ih =>
    intro hn
    by_cases h0 : (n + 1) % 4 = 0
    · rw [h0]
      exact (acc_first m c ⟨n + 1, hn⟩ h0 i j).trans (Finset.sum_range_one fun k => part m c ((n + 1) / 4) k i j).symm
    · refine (acc_next m c ⟨n + 1, hn⟩ h0 i j).trans ?_
      have e : n % 4 + 1 = (n + 1) % 4 := by omega
      have e' : n / 4 = (n + 1) / 4 := by omega
      have ih := ih (Nat.lt_of_succ_lt hn)
      rw [e, e'] at ih
      rw [Finset.sum_range_succ, ← ih]
      rfl

theorem out_grad (t : Fin cfg0.N) (h1 : t.val % 4 = 3) (u : Fin 1) (i j) :
    (outsAt0 m c t.val t.isLt).1 (ix3 u i j) = grad m c (Fin.ofNat 4 (t.val / 4)) i j := by
  have e := acc m c i j t.val t.isLt
  rw [h1] at e
  replace e := e.trans (sum_toks fun s => p m c s (ch (t.val / 4) i) * dz m c s (ch (t.val / 4) j)).symm
  rw [outsAt0_C m c t (by omega) h1] at e ⊢
  refine Eq.trans ?_ e
  frame_open
  simp (disch := decide) only [↓ View.readCov_skip, ↓ View.readCov_cons_toLoadRect, ↓ View.readCov_fill]
  frame_out
  pointwise [k0_pay3]

/-- The gradient as an array. -/
def result : (⟨3, ![4, 256, 256]⟩ : Shape).Idx → EReal := fun y => grad m c (y 0) (y 1) (y 2)

theorem arr_grad : (dats m 0 c).arrAt 2 cfg0.N = result m c := by
  refine (dats m 0 c).arrAt_eq_of_covers 2 (result m c : Vec Ideal S4x256x256 .bf16) (by decide +kernel) fun t hf y => ?_
  blk_simp
  rw [after0_2]
  obtain ⟨u, i, j, rfl⟩ : ∃ (u : Fin 1) (i j : Fin 256), y = ix3 u i j := ⟨y 0, y 1, y 2, eq_ix3 y⟩
  refine (out_grad m c t ((flush0_2 t).mp hf) u i j).trans ?_
  refine congrArg (result m c) (a₁ := ix3 (Fin.ofNat 4 (t.val / 4)) i j) ?_
  have hv : (Fin.ofNat 4 (t.val / 4)).val = t.val / 4 := Nat.mod_eq_of_lt (idx t).2.2.2.2
  blk_ext [idx t, hv]

theorem kernel_run (ρ : Dev nD → PrngReg) :
    θ_run defs (onTc (τ := τ) (main (F := Ideal))) ⟨m, fun _ => 0, ρ⟩ fun r => ∀ c : Dev nD, r.2.mem (c.tc.loc main_v2) = result m c
      ∧ r.2.mem (c.tc.loc main_arg0) = m (c.tc.loc main_arg0) ∧ r.2.mem (c.tc.loc main_arg1) = m (c.tc.loc main_arg1) :=
  (θ_run _ _ _).mono (fun r h c => by
    obtain ⟨h0, hk⟩ := h c
    rw [arr_grad] at h0
    exact ⟨h0, hk⟩) (Cert.Kernel7Ideal.Value.run_blocks m ρ)

end

section
open Cert.Reference7Ideal Cert.Reference7Ideal.Read

theorem reference_value (x0 x1 : Vec Ideal S8192x1024 .f32) (g i j) :
    val_main_v9 (F := Ideal) x0 x1 (ix3 g i j) = ∑ s, x0 (ix2 s (lane g i)) * x1 (ix2 s (lane g j)) := by
  pointwise [val_main_v9, val_main_v8, val_main_v7, val_main_v6, val_main_v5, val_main_v1]
  refine Finset.sum_congr rfl fun s _ => (mul_comm _ _).trans (congrArg₂ (· * ·) (congrArg x0 ?_) (congrArg x1 ?_))
  all_goals rfl

theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)) ∧ r.2.sem = fun _ => 0 :=
  (θ_run _ _ _).mono (fun r h => ⟨fun c => (h c).2, sem_eq_zero_of_no_sems (by decide) r.2⟩) (Cert.Reference7Ideal.Value.run m ρ)

end

theorem algebraic : @Cert.algebraic_Kernel7Ideal_Reference7Ideal Cert.Kernel7Ideal.Gen.facts Cert.Reference7Ideal.Gen.facts := by
  intro m g m' g' _ hargs
  refine ⟨fun c => result m c, kernel_run m g, (θ_run _ _ _).mono (fun r h c => ?_) (Cert.Reference7Ideal.Value.run m' g')⟩
  obtain ⟨h0, hk⟩ := h c
  obtain ⟨e0, e1⟩ := hargs c
  refine ⟨h0.trans ?_, hk⟩
  rw [e0, e1]
  exact funext fun y => (congrArg _ (eq_ix3 y)).trans (reference_value _ _ (y 0) (y 1) (y 2))

end Cert.Proof.WgradGroups

end
-- ==== Proof.Loss.lean ====
/- The loss of the last layer's output over the extended reals, entry by entry: half the sum over the tokens of the mean square
   distance between the normed output and the target, and its gradient through the norm. -/
module

public import proofs.«01_k».proof.Proof.SwigluBwd

@[expose] public section

noncomputable section

namespace Cert.Proof

open Idealize.ShloMosaic

def half : EReal := Ideal.ofBits .f32 0x3F000000#32
def perLane : EReal := Ideal.ofBits .f32 0x3A800000#32

theorem half_val : half = ((1/2 : ℝ) : EReal) := by
  unfold half
  simp [Ideal.ofBits, Ideal.ieee, -EReal.coe_mul]; norm_num

theorem perLane_val : perLane = ((1/1024 : ℝ) : EReal) := by
  unfold perLane
  simp [Ideal.ofBits, Ideal.ieee, -EReal.coe_mul]; norm_num

theorem two_val : Ideal.ofBits .f32 0x40000000#32 = ((2 : ℝ) : EReal) := by
  simp [Ideal.ofBits, Ideal.ieee, -EReal.coe_mul]; norm_num

/-- The square's derivative, scaled by the sum's and the mean's. -/
theorem square_bwd (d : EReal) : Ideal.div half rowLen * (Ideal.ofBits .f32 0x40000000#32 * d) = d * perLane := by
  rw [half_val, two_val, perLane_val, rowLen_eq, div_real _ (by norm_num), ← mul_assoc, ← EReal.coe_mul, mul_comm]
  exact congrArg (d * ·) (congrArg _ (by norm_num))

/-- A positive real factor goes into a sum of any values. -/
theorem sum_mul_pos {ι : Type} (s : Finset ι) (f : ι → EReal) {r : ℝ} (hr : 0 ≤ r) : (∑ k ∈ s, f k) * (r : EReal) = ∑ k ∈ s, f k * (r : EReal) := by
  induction s using Finset.cons_induction with
  | empty => simp
  | cons a s ha ih =>
    rw [Finset.sum_cons, Finset.sum_cons, EReal.right_distrib_of_nonneg_of_ne_top (EReal.coe_nonneg.2 hr) (EReal.coe_ne_top r), ih]

/-- A half of each is a half of the whole. -/
theorem half_sum (p : ℕ → EReal) (N : ℕ) : ∑ n ∈ Finset.range N, half * p n = half * ∑ n ∈ Finset.range N, p n := by
  rw [half_val, mul_comm, sum_mul_pos _ _ (by norm_num)]
  exact Finset.sum_congr rfl fun n _ => mul_comm _ _

/-- Twice a half, for any value. -/
theorem twice_half (y : EReal) {q : ℝ} (hq : 0 < q) : y * ((-(q / 2) : ℝ) : EReal) + y * ((-(q / 2) : ℝ) : EReal) = -(y * (q : EReal)) := by
  have hn : -(q / 2) < 0 := by linarith
  induction y with
  | bot => rw [EReal.bot_mul_coe_of_neg hn, EReal.bot_mul_coe_of_pos hq]; rfl
  | top => rw [EReal.top_mul_coe_of_neg hn, EReal.top_mul_coe_of_pos hq]; rfl
  | coe y =>
    simp only [← EReal.coe_mul, ← EReal.coe_add, ← EReal.coe_neg]
    exact congrArg _ (by ring)

theorem div_coe (a : EReal) {c : ℝ} (hc : c ≠ 0) : Ideal.div a (c : EReal) = a * ((c⁻¹ : ℝ) : EReal) := by
  unfold Ideal.div
  rw [if_neg (by simpa using hc), ← EReal.coe_inv]

/-- The two paths of the norm's derivative and its closed form, for any values: with an infinite mean square both are
    zero, and with a real one the scale is a positive real, which goes into every sum. -/
theorem rms_bwd_any {n : ℕ} (x d : Fin n → EReal) {c e : ℝ} (hc : 0 < c) (he : 0 < e) (j : Fin n) :
    (d j * rms c e x + x j * Ideal.div ((∑ k, x k * d k) * (((-(1/2) : ℝ) : EReal) * Ideal.div (rms c e x) (meanSq c e x))) c)
        + Ideal.div ((∑ k, x k * d k) * (((-(1/2) : ℝ) : EReal) * Ideal.div (rms c e x) (meanSq c e x))) c * x j
      = rms c e x * (d j - (x j * rms c e x) * Ideal.div (∑ k, d k * (x k * rms c e x)) c) := by
  have h0 : 0 ≤ ∑ k, x k * x k := Finset.sum_nonneg fun k _ => by
    rcases le_total 0 (x k) with h | h
    · exact mul_nonneg h h
    · rw [← neg_mul_neg]
      exact mul_nonneg (EReal.neg_nonneg.2 h) (EReal.neg_nonneg.2 h)
  unfold rms meanSq
  generalize ∑ k, x k * x k = M at h0 ⊢
  simp only [div_coe _ hc.ne']
  induction M with
  | bot => exact absurd h0 (by simp)
  | top =>
    rw [EReal.top_mul_coe_of_pos (inv_pos.2 hc), EReal.top_add_coe, Ideal.rsqrt_top]
    simp [Ideal.div]
  | coe M =>
    have hM : 0 ≤ M := EReal.coe_nonneg.1 h0
    rw [← EReal.coe_mul, ← EReal.coe_add]
    have hm : 0 < M * c⁻¹ + e := add_pos_of_nonneg_of_pos (mul_nonneg hM (inv_pos.2 hc).le) he
    generalize M * c⁻¹ + e = m at hm ⊢
    rw [rsqrt_real hm, div_real _ hm.ne']
    have hs : 0 < (Real.sqrt m)⁻¹ := inv_pos.2 (Real.sqrt_pos.2 hm)
    have hq : (Real.sqrt m)⁻¹ / m = (Real.sqrt m)⁻¹ ^ 3 := by
      have h1 : m = Real.sqrt m * Real.sqrt m := (Real.mul_self_sqrt hm.le).symm
      have h2 : Real.sqrt m ≠ 0 := (Real.sqrt_pos.2 hm).ne'
      rw [div_eq_iff hm.ne']
      nth_rw 3 [h1]
      field_simp
    rw [hq]
    generalize (Real.sqrt m)⁻¹ = r at hs ⊢
    have e1 : ∑ k, d k * (x k * (r : EReal)) = (∑ k, x k * d k) * (r : EReal) := by
      rw [sum_mul_pos _ _ hs.le]
      exact Finset.sum_congr rfl fun k _ => by rw [← mul_assoc, mul_comm (d k)]
    rw [e1]
    generalize ∑ k, x k * d k = S
    have e2 : S * (((-(1/2) : ℝ) : EReal) * ((r ^ 3 : ℝ) : EReal)) * ((c⁻¹ : ℝ) : EReal) = S * ((-(r ^ 3 * c⁻¹ / 2) : ℝ) : EReal) := by
      rw [mul_assoc, ← EReal.coe_mul, ← EReal.coe_mul]
      exact congrArg (S * ·) (congrArg _ (by ring))
    have e3 : (r : EReal) * (x j * (r : EReal) * (S * (r : EReal) * ((c⁻¹ : ℝ) : EReal))) = x j * S * ((r ^ 3 * c⁻¹ : ℝ) : EReal) := by
      have : ((r ^ 3 * c⁻¹ : ℝ) : EReal) = (r : EReal) * (r : EReal) * (r : EReal) * ((c⁻¹ : ℝ) : EReal) := by
        simp only [← EReal.coe_mul]
        exact congrArg _ (by ring)
      rw [this]
      ac_rfl
    rw [e2, sub_eq_add_neg, EReal.left_distrib_of_nonneg_of_ne_top (EReal.coe_nonneg.2 hs.le) (EReal.coe_ne_top r), mul_neg, e3,
      ← twice_half _ (mul_pos (pow_pos hs 3) (inv_pos.2 hc)), add_assoc, mul_comm (d j), mul_comm (S * _) (x j), ← mul_assoc (x j)]

/-- What the last layer reads: the layer, the target and the last norm's gain. -/
structure Head extends Ffn where
  target : Fin 8192 → Fin 1024 → EReal
  gf : Fin 1024 → EReal

namespace Head

variable (w : Head)

def rf (s : Fin 8192) : EReal := rms rowLen eps (w.xo s)
def diff (s : Fin 8192) (j : Fin 1024) : EReal := w.xo s j * w.rf s * w.gf j - w.target s j
def part (s : Fin 8192) : EReal := Ideal.div (∑ j, w.diff s j * w.diff s j) rowLen
def loss : EReal := half * ∑ s, w.part s
def dy (s : Fin 8192) (j : Fin 1024) : EReal := w.diff s j * perLane
def dgf (j : Fin 1024) : EReal := ∑ s, w.dy s j * (w.xo s j * w.rf s)
def dxo (s : Fin 8192) (j : Fin 1024) : EReal :=
  w.rf s * (w.dy s j * w.gf j - (w.xo s j * w.rf s) * Ideal.div (∑ k, w.dy s k * w.gf k * (w.xo s k * w.rf s)) rowLen)

end Head

end Cert.Proof

end
-- ==== Proof.HeadRef.lean ====
/- The last layer's reference: its six results, entry by entry. -/
module

public import proofs.«01_k».proof.Proof.Loss
public import proofs.«01_k».proof.Proof.Gen.Reference6Ideal.Read
public import Idealize.ShloMosaic.Lib.Pointwise

@[expose] public section

set_option maxRecDepth 16384

noncomputable section

namespace Cert.Proof.HeadRef

open Idealize.ShloMosaic Cert.Reference6Ideal Cert.Reference6Ideal.Gen Cert.Reference6Ideal.Read Idealize.ShloMosaic.Pointwise

variable (x0 : (⟨S8192x1024, .f32⟩ : BufTy).Contents (Elt Ideal)) (x1 : (⟨S1x1024, .f32⟩ : BufTy).Contents (Elt Ideal))
  (x2 x3 : (⟨S1024x2816, .f32⟩ : BufTy).Contents (Elt Ideal)) (x4 : (⟨S2816x1024, .f32⟩ : BufTy).Contents (Elt Ideal))
  (x5 : (⟨S8192x1024, .f32⟩ : BufTy).Contents (Elt Ideal)) (x6 : (⟨S1x1024, .f32⟩ : BufTy).Contents (Elt Ideal))

/-- The arguments by their entries. -/
def arr : Head where
  x s j := x0 (ix2 s j)
  g j := x1 (ix2 0 j)
  gate j f := x2 (ix2 j f)
  up j f := x3 (ix2 j f)
  down f j := x4 (ix2 f j)
  target s j := x5 (ix2 s j)
  gf j := x6 (ix2 0 j)

/-! Forward: the layer, the norm, the loss. -/

theorem h (s j) : val_main_v11 (F := Ideal) x0 x1 (ix2 s j) = (arr x0 x1 x2 x3 x4 x5 x6).h s j := by
  pointwise [val_main_v11, val_main_v10, val_main_v9, val_main_v8, val_main_v7, val_main_v6, val_main_v5, val_main_v4, val_main_v3, val_main_v2, val_main_v1, val_main_v0, val_main_cst, val_main_cst_0, val_main_cst_1]
  rfl

theorem a (s f) : val_main_v12 (F := Ideal) x0 x1 x2 (ix2 s f) = (arr x0 x1 x2 x3 x4 x5 x6).a s f := by
  pointwise [val_main_v12]
  exact Finset.sum_congr rfl fun j _ => congrArg (· * _) (h x0 x1 x2 x3 x4 x5 x6 s j)

theorem b (s f) : val_main_v13 (F := Ideal) x0 x1 x3 (ix2 s f) = (arr x0 x1 x2 x3 x4 x5 x6).b s f := by
  pointwise [val_main_v13]
  exact Finset.sum_congr rfl fun j _ => congrArg (· * _) (h x0 x1 x2 x3 x4 x5 x6 s j)

theorem sig_a (s f) : val_main_call0_v5 (F := Ideal) x0 x1 x2 (ix2 s f) = sigmoid ((arr x0 x1 x2 x3 x4 x5 x6).a s f) := by
  rw [← a]
  pointwise [val_main_call0_v5, val_main_call0_v4, val_main_call0_v3, val_main_call0_v2, val_main_call0_v1, val_main_call0_v0, val_main_call0_cst, val_main_call0_cst_0]
  rfl

theorem s (s f) : val_main_v15 (F := Ideal) x0 x1 x2 x3 (ix2 s f) = (arr x0 x1 x2 x3 x4 x5 x6).s s f := by
  pointwise [val_main_v15, val_main_v14]
  rw [a x0 x1 x2 x3 x4 x5 x6, b x0 x1 x2 x3 x4 x5 x6, sig_a x0 x1 x2 x3 x4 x5 x6]
  rfl

theorem xo (t j) : val_main_v17 (F := Ideal) x0 x1 x2 x3 x4 (ix2 t j) = (arr x0 x1 x2 x3 x4 x5 x6).xo t j := by
  pointwise [val_main_v17, val_main_v16]
  exact congrArg (_ + ·) (Finset.sum_congr rfl fun f _ => congrArg (· * _) (s x0 x1 x2 x3 x4 x5 x6 t f))

theorem meanSq_eq (s : Fin 8192) (k : Fin 1) :
    val_main_v24 (F := Ideal) x0 x1 x2 x3 x4 (ix2 s k) = meanSq rowLen eps ((arr x0 x1 x2 x3 x4 x5 x6).xo s) := by
  pointwise [val_main_v24, val_main_v23, val_main_v22, val_main_v21, val_main_v20, val_main_v19, val_main_v18, val_main_cst_2, val_main_cst_3, val_main_cst_4]
  simp only [xo x0 x1 x2 x3 x4 x5 x6]
  rfl

theorem rf (s : Fin 8192) (k : Fin 1) : val_main_v25 (F := Ideal) x0 x1 x2 x3 x4 (ix2 s k) = (arr x0 x1 x2 x3 x4 x5 x6).rf s := by
  pointwise [val_main_v25]
  rw [meanSq_eq x0 x1 x2 x3 x4 x5 x6]
  rfl

theorem diff (s j) : val_main_v33 (F := Ideal) x0 x1 x2 x3 x4 x5 x6 (ix2 s j) = (arr x0 x1 x2 x3 x4 x5 x6).diff s j := by
  pointwise [val_main_v33, val_main_v32, val_main_v31, val_main_v30, val_main_v29]
  rw [xo x0 x1 x2 x3 x4 x5 x6, rf x0 x1 x2 x3 x4 x5 x6]
  rfl

theorem loss (i j : Fin 1) : val_main_v70 (F := Ideal) x0 x1 x2 x3 x4 x5 x6 (ix2 i j) = (arr x0 x1 x2 x3 x4 x5 x6).loss := by
  pointwise [val_main_v70, val_main_v41, val_main_v40, val_main_v39, val_main_v38, val_main_v37, val_main_v34, val_main_cst_7, val_main_cst_8,
    val_main_cst_9, val_main_cst_10]
  simp only [diff x0 x1 x2 x3 x4 x5 x6]
  rfl

/-! Backward. -/

variable {x0 x1 x2 x3 x4 x5 x6}

theorem dy (s j) : val_main_v47 (F := Ideal) x0 x1 x2 x3 x4 x5 x6 (ix2 s j) = (arr x0 x1 x2 x3 x4 x5 x6).dy s j := by
  pointwise [val_main_v47, val_main_v46, val_main_v45, val_main_v44, val_main_v43, val_main_v42, val_main_v36, val_main_v35, val_main_cst_6,
    val_main_cst_11, val_main_cst_12, val_main_cst_13]
  rw [diff x0 x1 x2 x3 x4 x5 x6]
  exact square_bwd _

theorem dgf (i j) : val_main_v50 (F := Ideal) x0 x1 x2 x3 x4 x5 x6 (ix2 i j) = (arr x0 x1 x2 x3 x4 x5 x6).dgf j := by
  pointwise [val_main_v50, val_main_v49, val_main_v48, val_main_v30, val_main_v29, val_main_cst_14]
  refine Finset.sum_congr rfl fun s _ => ?_
  rw [xo x0 x1 x2 x3 x4 x5 x6, rf x0 x1 x2 x3 x4 x5 x6, dy, mul_comm]

theorem dxo (s j) : val_main_v66 (F := Ideal) x0 x1 x2 x3 x4 x5 x6 (ix2 s j) = (arr x0 x1 x2 x3 x4 x5 x6).dxo s j := by
  pointwise [val_main_v66, val_main_v65, val_main_v64, val_main_v63, val_main_v62, val_main_v61, val_main_v60, val_main_v59, val_main_v58,
    val_main_v57, val_main_v56, val_main_v55, val_main_v54, val_main_v53, val_main_v52, val_main_v51, val_main_v28, val_main_v27, val_main_v26,
    val_main_cst_5, val_main_cst_15, val_main_cst_16, val_main_cst_17]
  simp only [xo x0 x1 x2 x3 x4 x5 x6, rf x0 x1 x2 x3 x4 x5 x6, dy, meanSq_eq x0 x1 x2 x3 x4 x5 x6]
  simp only [Finset.univ_unique, Finset.sum_singleton]
  obtain ⟨e, he, hee⟩ := eps_eq
  have key := rms_bwd_any ((arr x0 x1 x2 x3 x4 x5 x6).xo s) (fun k => (arr x0 x1 x2 x3 x4 x5 x6).dy s k * (arr x0 x1 x2 x3 x4 x5 x6).gf k)
    (c := 1024) (e := e) (by norm_num) he j
  rw [← rowLen_eq, ← hee, ← half_eq] at key
  exact key

variable (x0 x1 x2 x3 x4 x5 x6)

theorem a_bf (s f) : val_main_v67 (F := Ideal) x0 x1 x2 (ix2 s f) = (arr x0 x1 x2 x3 x4 x5 x6).a s f := by
  pointwise [val_main_v67]
  exact a x0 x1 x2 x3 x4 x5 x6 s f

theorem b_bf (s f) : val_main_v68 (F := Ideal) x0 x1 x3 (ix2 s f) = (arr x0 x1 x2 x3 x4 x5 x6).b s f := by
  pointwise [val_main_v68]
  exact b x0 x1 x2 x3 x4 x5 x6 s f

theorem s_bf (t f) : val_main_v69 (F := Ideal) x0 x1 x2 x3 (ix2 t f) = (arr x0 x1 x2 x3 x4 x5 x6).s t f := by
  pointwise [val_main_v69]
  exact s x0 x1 x2 x3 x4 x5 x6 t f

end Cert.Proof.HeadRef

end
-- ==== Proof.Head.lean ====
/- The last layer's forward kernel: the forward kernel's two steps per tile, the second of which norms the tile's output rows, adds their
   distance to the target to the loss, and writes the loss's gradient; loss and gain gradient are kept from tile to tile. -/
module

public import proofs.«01_k».proof.Proof.HeadRef
public import proofs.«01_k».proof.Proof.Gen.Kernel6Ideal.Value
public import Idealize.ShloMosaic.Lib.Pointwise
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Proof.LastLayer

open Idealize.ShloMosaic Idealize.ShloMosaic.TcCoe Idealize.SL.Sem Cert.Kernel6Ideal Cert.Kernel6Ideal.Gen Idealize.ShloMosaic.Pointwise

variable (m : (ℓ : Loc nD τ sig) → Buf (Elt Ideal) ℓ) (c : Dev nD)

/-- The layer and the target of the arguments. -/
def arr : Head := HeadRef.arr (m (c.tc.loc main_arg0)) (m (c.tc.loc main_arg1)) (m (c.tc.loc main_arg2)) (m (c.tc.loc main_arg3))
  (m (c.tc.loc main_arg4)) (m (c.tc.loc main_arg5)) (m (c.tc.loc main_arg6))

/-! ## The blocks -/

theorem V_gate : V m c main_v1 = truncf (F := Ideal) .bf16 (transpose S2816x1024 [1, 0] (m (c.tc.loc main_arg2) : Vec Ideal S1024x2816 .f32)
    transposes_S1024x2816_S2816x1024_1_0) bitsLt_bf16_f32 := by
  unfold V
  after_reads_simp

theorem V_up : V m c main_v3 = truncf (F := Ideal) .bf16 (transpose S2816x1024 [1, 0] (m (c.tc.loc main_arg3) : Vec Ideal S1024x2816 .f32)
    transposes_S1024x2816_S2816x1024_1_0) bitsLt_bf16_f32 := by
  unfold V
  after_reads_simp

theorem V_down : V m c main_v4 = truncf (F := Ideal) .bf16 (m (c.tc.loc main_arg4) : Vec Ideal S2816x1024 .f32) bitsLt_bf16_f32 := by
  unfold V
  after_reads_simp

theorem idx (t : Fin grid0.N) : (win0_0.index t 0 = t.val / 2 ∧ win0_0.index t 1 = 0) ∧ (win0_1.index t 0 = 0 ∧ win0_1.index t 1 = 0)
    ∧ (win0_2.index t 0 = t.val % 2 ∧ win0_2.index t 1 = 0) ∧ (win0_3.index t 0 = t.val % 2 ∧ win0_3.index t 1 = 0)
    ∧ (win0_4.index t 0 = t.val % 2 ∧ win0_4.index t 1 = 0) ∧ (win0_5.index t 0 = t.val / 2 ∧ win0_5.index t 1 = 0)
    ∧ (win0_6.index t 0 = 0 ∧ win0_6.index t 1 = 0) ∧ (win0_7.index t 0 = t.val / 2 ∧ win0_7.index t 1 = 0)
    ∧ (win0_8.index t 0 = t.val / 2 ∧ win0_8.index t 1 = t.val % 2) ∧ (win0_9.index t 0 = t.val / 2 ∧ win0_9.index t 1 = t.val % 2)
    ∧ (win0_10.index t 0 = t.val / 2 ∧ win0_10.index t 1 = t.val % 2) ∧ (win0_11.index t 0 = 0 ∧ win0_11.index t 1 = 0)
    ∧ (win0_12.index t 0 = 0 ∧ win0_12.index t 1 = 0) ∧ t.val < 32 := by
  revert t; decide +kernel

theorem tile_lt (t : Fin cfg0.N) : t.val / 2 < 16 := Nat.div_lt_of_lt_mul (n := 2) (k := 16) (by have := idx t; omega)

theorem half_lt (t : Fin cfg0.N) : t.val % 2 < 2 := Nat.mod_lt _ (by decide)

theorem read_x (t : Fin cfg0.N) (r j) : iblk m c 0 t (ix2 r j) = (arr m c).x (tok (t.val / 2) r) j := by
  blk_simp [iblk]
  rw [V_main_arg0]
  refine congrArg (m (c.tc.loc main_arg0)) ?_
  blk_ext [idx t, tok_val (tile_lt t)]

theorem read_g (t : Fin cfg0.N) (j) : iblk m c 1 t (ix2 0 j) = (arr m c).g j := by
  blk_simp [iblk]
  rw [V_main_arg1]
  refine congrArg (m (c.tc.loc main_arg1)) ?_
  blk_ext [idx t]

theorem read_gate (t : Fin cfg0.N) (i j) : iblk m c 2 t (ix2 i j) = (arr m c).gate j (col (t.val % 2) i) := by
  blk_simp [iblk]
  rw [V_gate]
  pointwise []
  refine congrArg (m (c.tc.loc main_arg2)) ?_
  blk_ext [idx t, col_val (half_lt t)]

theorem read_up (t : Fin cfg0.N) (i j) : iblk m c 3 t (ix2 i j) = (arr m c).up j (col (t.val % 2) i) := by
  blk_simp [iblk]
  rw [V_up]
  pointwise []
  refine congrArg (m (c.tc.loc main_arg3)) ?_
  blk_ext [idx t, col_val (half_lt t)]

theorem read_down (t : Fin cfg0.N) (i j) : iblk m c 4 t (ix2 i j) = (arr m c).down (col (t.val % 2) i) j := by
  blk_simp [iblk]
  rw [V_down]
  refine congrArg (m (c.tc.loc main_arg4)) ?_
  blk_ext [idx t, col_val (half_lt t)]

theorem read_target (t : Fin cfg0.N) (r j) : iblk m c 5 t (ix2 r j) = (arr m c).target (tok (t.val / 2) r) j := by
  blk_simp [iblk]
  rw [V_main_arg5]
  refine congrArg (m (c.tc.loc main_arg5)) ?_
  blk_ext [idx t, tok_val (tile_lt t)]

theorem read_gf (t : Fin cfg0.N) (j) : iblk m c 6 t (ix2 0 j) = (arr m c).gf j := by
  blk_simp [iblk]
  rw [V_main_arg6]
  refine congrArg (m (c.tc.loc main_arg6)) ?_
  blk_ext [idx t]

/-! ## The layer's values of a point -/

/-- The normed rows of the point's tile. -/
def Rows (t : Fin cfg0.N) (H : Vec Ideal S512x1024 .bf16) : Prop := ∀ r j, H (ix2 r j) = (arr m c).h (tok (t.val / 2) r) j

theorem rows (t : Fin cfg0.N) : Rows m c t (k0_pay15 (iblk m c 0 t) (iblk m c 1 t)) := fun r j => by
  pointwise [k0_pay15]
  simp only [read_x, read_g]
  rfl

section
variable {m c} {t : Fin cfg0.N} {H : Vec Ideal S512x1024 .bf16} (hH : Rows m c t H)
include hH

theorem a_at (r i) : k0_pay16 H (iblk m c 2 t) (ix2 r i) = (arr m c).a (tok (t.val / 2) r) (col (t.val % 2) i) := by
  pointwise [k0_pay16]
  simp only [read_gate, hH r]
  rfl

theorem b_at (r i) : k0_pay17 H (iblk m c 3 t) (ix2 r i) = (arr m c).b (tok (t.val / 2) r) (col (t.val % 2) i) := by
  pointwise [k0_pay17]
  simp only [read_up, hH r]
  rfl

theorem s_of (r i) : k0_pay18 H (iblk m c 2 t) (iblk m c 3 t) (ix2 r i) = (arr m c).s (tok (t.val / 2) r) (col (t.val % 2) i) := by
  pointwise [k0_pay18]
  rw [a_at hH, b_at hH]
  rfl

theorem a_of (r i) : k0_pay19 H (iblk m c 2 t) (ix2 r i) = (arr m c).a (tok (t.val / 2) r) (col (t.val % 2) i) := by
  pointwise [k0_pay19]
  exact a_at hH r i

theorem b_of (r i) : k0_pay20 H (iblk m c 3 t) (ix2 r i) = (arr m c).b (tok (t.val / 2) r) (col (t.val % 2) i) := by
  pointwise [k0_pay20]
  exact b_at hH r i

theorem acc_of (A : Vec Ideal S512x1024 .f32) (r j) : k0_pay21 H (iblk m c 2 t) (iblk m c 3 t) A (iblk m c 4 t) (ix2 r j)
    = A (ix2 r j) + ∑ i, (arr m c).s (tok (t.val / 2) r) (col (t.val % 2) i) * (arr m c).down (col (t.val % 2) i) j := by
  pointwise [k0_pay21]
  simp only [s_of hH, read_down]

end

/-! ## The loss's values of a tile, over its output rows -/

section
variable {m c} {t : Fin cfg0.N} {X A : Vec Ideal S512x1024 .f32} (hX : ∀ r j, k0_pay5 X A (ix2 r j) = (arr m c).xo (tok (t.val / 2) r) j)
include hX

theorem diff_of (r j) : k0_pay6 X A (iblk m c 5 t) (iblk m c 6 t) (ix2 r j) = (arr m c).diff (tok (t.val / 2) r) j := by
  pointwise [k0_pay6]
  simp only [hX, read_target, read_gf]
  rfl

theorem part_of (k l : Fin 1) : k0_pay7 X A (iblk m c 5 t) (iblk m c 6 t) (ix2 k l) = half * ∑ r, (arr m c).part (tok (t.val / 2) r) := by
  pointwise [k0_pay7]
  simp only [diff_of hX]
  rfl

theorem dy_of (r j) : k0_pay8 X A (iblk m c 5 t) (iblk m c 6 t) (ix2 r j) = (arr m c).dy (tok (t.val / 2) r) j := by
  pointwise [k0_pay8]
  rw [diff_of hX]
  rfl

theorem rf_of (r) (k : Fin 1) : k0_pay9 X A (ix2 r k) = (arr m c).rf (tok (t.val / 2) r) := by
  pointwise [k0_pay9]
  simp only [hX]
  rfl

theorem unit_of (r j) : k0_pay10 X A (ix2 r j) = (arr m c).xo (tok (t.val / 2) r) j * (arr m c).rf (tok (t.val / 2) r) := by
  pointwise [k0_pay10]
  rw [hX, rf_of hX]

theorem dx_of (r j) : k0_pay2 (iblk m c 6 t) (k0_pay8 X A (iblk m c 5 t) (iblk m c 6 t)) (k0_pay9 X A) (k0_pay10 X A) (ix2 r j)
    = (arr m c).dxo (tok (t.val / 2) r) j := by
  pointwise [k0_pay2]
  simp only [dy_of hX, rf_of hX, unit_of hX, read_gf]
  rfl

theorem loss_of (L : Vec Ideal S1x1 .f32) (k l : Fin 1) : k0_pay3 (k0_pay7 X A (iblk m c 5 t) (iblk m c 6 t)) L (ix2 k l)
    = L (ix2 k l) + half * ∑ r, (arr m c).part (tok (t.val / 2) r) := by
  pointwise [k0_pay3]
  rw [part_of hX]

theorem dg_of (G : Vec Ideal S1x1024 .f32) (k : Fin 1) (j) : k0_pay4 (k0_pay11 X A (iblk m c 5 t) (iblk m c 6 t)) G (ix2 k j) = G (ix2 k j)
    + ∑ r, (arr m c).dy (tok (t.val / 2) r) j * ((arr m c).xo (tok (t.val / 2) r) j * (arr m c).rf (tok (t.val / 2) r)) := by
  pointwise [k0_pay4, k0_pay11]
  simp only [dy_of hX, unit_of hX]

end

/-! ## What the points leave -/

/-- The point before. -/
def prev (t : Fin cfg0.N) : Fin cfg0.N := ⟨t.val - 1, Nat.lt_of_le_of_lt (Nat.sub_le _ _) t.isLt⟩

theorem prev_val (t : Fin cfg0.N) : (prev t).val = t.val - 1 := rfl

/-- What a point leaves in the outputs' blocks and in scratch. -/
def left (t : Fin cfg0.N) := outsAt0 m c t.val t.isLt

theorem cases3 (t : Fin cfg0.N) : (t.val % 32 = 0 ∧ t.val % 2 = 0 ∧ ¬ t.val % 2 = 1) ∨ (¬ t.val % 32 = 0 ∧ t.val % 2 = 0 ∧ ¬ t.val % 2 = 1)
    ∨ (¬ t.val % 32 = 0 ∧ ¬ t.val % 2 = 0 ∧ t.val % 2 = 1) := by omega

/-- The first step leaves the tile's normed rows in scratch, -/
theorem rows_first (t : Fin cfg0.N) (h : t.val % 2 = 0) : Rows m c t (left m c t).2.2.2.2.2.2.2 := fun r j => by
  rw [left]
  rcases cases3 t with ⟨h0, h1, h2⟩ | ⟨h0, h1, h2⟩ | ⟨h0, h1, h2⟩
  · rw [outsAt0_A m c t h0 h1 h2]
    frame_out
    exact rows m c t r j
  · rw [outsAt0_C m c t h0 h1 h2]
    frame_out
    exact rows m c t r j
  · exact absurd h h1

/-- which the second finds there. -/
theorem rows_second (t : Fin cfg0.N) (h1 : t.val % 2 = 1) : Rows m c t (left m c (prev t)).2.2.2.2.2.2.2 := fun r j => by
  refine (rows_first m c (prev t) (by rw [prev_val]; omega) r j).trans ?_
  rw [prev_val, show (t.val - 1) / 2 = t.val / 2 by omega]

theorem out_a (t : Fin cfg0.N) (y) : (left m c t).2.1 y = (arr m c).a (tok (t.val / 2) (y 0)) (col (t.val % 2) (y 1)) := by
  obtain ⟨r, i, rfl⟩ : ∃ (r : Fin 512) (i : Fin 1408), y = ix2 r i := ⟨y 0, y 1, eq_ix2 y⟩
  rw [left]
  rcases cases3 t with ⟨h0, h1, h2⟩ | ⟨h0, h1, h2⟩ | ⟨h0, h1, h2⟩
  · rw [outsAt0_A m c t h0 h1 h2]
    frame_out
    exact a_of (rows m c t) r i
  · rw [outsAt0_C m c t h0 h1 h2]
    frame_out
    exact a_of (rows m c t) r i
  · rw [outsAt0_B m c t h0 h1 h2]
    frame_out
    simp only [read_unread_whole]
    exact a_of (rows_second m c t h2) r i

theorem out_b (t : Fin cfg0.N) (y) : (left m c t).2.2.1 y = (arr m c).b (tok (t.val / 2) (y 0)) (col (t.val % 2) (y 1)) := by
  obtain ⟨r, i, rfl⟩ : ∃ (r : Fin 512) (i : Fin 1408), y = ix2 r i := ⟨y 0, y 1, eq_ix2 y⟩
  rw [left]
  rcases cases3 t with ⟨h0, h1, h2⟩ | ⟨h0, h1, h2⟩ | ⟨h0, h1, h2⟩
  · rw [outsAt0_A m c t h0 h1 h2]
    frame_out
    exact b_of (rows m c t) r i
  · rw [outsAt0_C m c t h0 h1 h2]
    frame_out
    exact b_of (rows m c t) r i
  · rw [outsAt0_B m c t h0 h1 h2]
    frame_out
    simp only [read_unread_whole]
    exact b_of (rows_second m c t h2) r i

theorem out_s (t : Fin cfg0.N) (y) : (left m c t).2.2.2.1 y = (arr m c).s (tok (t.val / 2) (y 0)) (col (t.val % 2) (y 1)) := by
  obtain ⟨r, i, rfl⟩ : ∃ (r : Fin 512) (i : Fin 1408), y = ix2 r i := ⟨y 0, y 1, eq_ix2 y⟩
  rw [left]
  rcases cases3 t with ⟨h0, h1, h2⟩ | ⟨h0, h1, h2⟩ | ⟨h0, h1, h2⟩
  · rw [outsAt0_A m c t h0 h1 h2]
    frame_out
    exact s_of (rows m c t) r i
  · rw [outsAt0_C m c t h0 h1 h2]
    frame_out
    exact s_of (rows m c t) r i
  · rw [outsAt0_B m c t h0 h1 h2]
    frame_out
    simp only [read_unread_whole]
    exact s_of (rows_second m c t h2) r i

/-- The first step leaves its half's part of the third product. -/
theorem acc_first (t : Fin cfg0.N) (h : t.val % 2 = 0) (r j) : (left m c t).2.2.2.2.2.2.1 (ix2 r j)
    = ∑ i, (arr m c).s (tok (t.val / 2) r) (col (t.val % 2) i) * (arr m c).down (col (t.val % 2) i) j := by
  rw [left]
  rcases cases3 t with ⟨h0, h1, h2⟩ | ⟨h0, h1, h2⟩ | ⟨h0, h1, h2⟩
  · rw [outsAt0_A m c t h0 h1 h2]
    frame_open
    simp (disch := decide) only [↓ View.readCov_skip, ↓ View.readCov_cons_toLoadRect, ↓ View.readCov_fill]
    frame_out
    pointwise [k0_pay1]
    refine (acc_of (rows m c t) _ r j).trans ((congrArg (· + _) ?_).trans (zero_add _))
    pointwise [k0_pay14]
  · rw [outsAt0_C m c t h0 h1 h2]
    frame_open
    simp (disch := decide) only [↓ View.readCov_skip, ↓ View.readCov_cons_toLoadRect, ↓ View.readCov_fill]
    frame_out
    pointwise [k0_pay1]
    refine (acc_of (rows m c t) _ r j).trans ((congrArg (· + _) ?_).trans (zero_add _))
    pointwise [k0_pay14]
  · exact absurd h h1

/-- The second step's sum over the halves. -/
theorem xo_second (t : Fin cfg0.N) (h1 : t.val % 2 = 1) (r j) :
    k0_pay5 (iblk m c 0 t) (k0_pay1 (k0_pay21 (left m c (prev t)).2.2.2.2.2.2.2 (iblk m c 2 t) (iblk m c 3 t) (left m c (prev t)).2.2.2.2.2.2.1
      (iblk m c 4 t))) (ix2 r j) = (arr m c).xo (tok (t.val / 2) r) j := by
  pointwise [k0_pay5, k0_pay1]
  rw [read_x, acc_of (rows_second m c t h1), acc_first m c (prev t) (by rw [prev_val]; omega)]
  refine congrArg (_ + ·) (Eq.trans ?_ (sum_cols _).symm)
  rw [prev_val, show (t.val - 1) / 2 = t.val / 2 by omega, show (t.val - 1) % 2 = 0 by omega, h1]

theorem out_dx (t : Fin cfg0.N) (h : t.val % 2 = 1) (y) : (left m c t).1 y = (arr m c).dxo (tok (t.val / 2) (y 0)) (y 1) := by
  obtain ⟨r, j, rfl⟩ : ∃ (r : Fin 512) (j : Fin 1024), y = ix2 r j := ⟨y 0, y 1, eq_ix2 y⟩
  rw [left, outsAt0_B m c t (by omega) (by omega) h]
  frame_open
  simp (disch := decide) only [↓ View.readCov_skip, ↓ View.readCov_cons_toLoadRect, ↓ View.readCov_fill]
  frame_out
  simp only [read_unread_whole]
  exact dx_of (xo_second m c t h) r j

/-- A tile's second step adds the tile's part to the loss, and to the gain's gradient, -/
theorem loss_step (t : Fin cfg0.N) (h : t.val % 2 = 1) (k l : Fin 1) : (left m c t).2.2.2.2.1 (ix2 k l)
    = (left m c (prev t)).2.2.2.2.1 (ix2 k l) + half * ∑ r, (arr m c).part (tok (t.val / 2) r) := by
  rw [left, outsAt0_B m c t (by omega) (by omega) h]
  frame_open
  simp (disch := decide) only [↓ View.readCov_skip, ↓ View.readCov_cons_toLoadRect, ↓ View.readCov_fill]
  frame_out
  simp only [read_unread_whole]
  exact loss_of (xo_second m c t h) _ k l

theorem dg_step (t : Fin cfg0.N) (h : t.val % 2 = 1) (k : Fin 1) (j) : (left m c t).2.2.2.2.2.1 (ix2 k j)
    = (left m c (prev t)).2.2.2.2.2.1 (ix2 k j)
      + ∑ r, (arr m c).dy (tok (t.val / 2) r) j * ((arr m c).xo (tok (t.val / 2) r) j * (arr m c).rf (tok (t.val / 2) r)) := by
  rw [left, outsAt0_B m c t (by omega) (by omega) h]
  frame_open
  simp (disch := decide) only [↓ View.readCov_skip, ↓ View.readCov_cons_toLoadRect, ↓ View.readCov_fill]
  frame_out
  simp only [read_unread_whole]
  exact dg_of (xo_second m c t h) _ k j

/-- which start at zero -/
theorem loss_start (t : Fin cfg0.N) (h : t.val = 0) (k l : Fin 1) : (left m c t).2.2.2.2.1 (ix2 k l) = 0 := by
  rw [left, outsAt0_A m c t (by omega) (by omega) (by omega)]
  frame_out
  pointwise [k0_pay12]

theorem dg_start (t : Fin cfg0.N) (h : t.val = 0) (k : Fin 1) (j) : (left m c t).2.2.2.2.2.1 (ix2 k j) = 0 := by
  rw [left, outsAt0_A m c t (by omega) (by omega) (by omega)]
  frame_out
  pointwise [k0_pay13]

/-- and which a later tile's first step keeps. -/
theorem kept (t : Fin cfg0.N) (h : t.val % 2 = 0) (hz : t.val ≠ 0) : (left m c t).2.2.2.2.1 = (left m c (prev t)).2.2.2.2.1
    ∧ (left m c t).2.2.2.2.2.1 = (left m c (prev t)).2.2.2.2.2.1 := by
  rw [left, outsAt0_C m c t (by have := idx t; omega) h (by omega)]
  exact ⟨rfl, rfl⟩

/-- After tile `n`'s second step the loss is the sum over the tiles so far, -/
theorem loss_tiles (k l : Fin 1) (n : ℕ) : ∀ t : Fin cfg0.N, t.val = 2 * n + 1 → (left m c t).2.2.2.2.1 (ix2 k l)
    = ∑ i ∈ Finset.range (n + 1), half * ∑ r, (arr m c).part (tok i r) := by
  induction n with
  | zero =>
    intro t ht
    rw [loss_step m c t (by omega), loss_start m c (prev t) (by rw [prev_val]; omega), zero_add, show t.val / 2 = 0 by omega, Finset.sum_range_one]
  | succ n ih =>
    intro t ht
    rw [loss_step m c t (by omega), (kept m c (prev t) (by rw [prev_val]; omega) (by rw [prev_val]; omega)).1,
      ih (prev (prev t)) (by rw [prev_val, prev_val]; omega), show t.val / 2 = n + 1 by omega, Finset.sum_range_succ _ (n + 1)]

/-- and so is the gain's gradient. -/
theorem dg_tiles (k : Fin 1) (j) (n : ℕ) : ∀ t : Fin cfg0.N, t.val = 2 * n + 1 → (left m c t).2.2.2.2.2.1 (ix2 k j)
    = ∑ i ∈ Finset.range (n + 1), ∑ r, (arr m c).dy (tok i r) j * ((arr m c).xo (tok i r) j * (arr m c).rf (tok i r)) := by
  induction n with
  | zero =>
    intro t ht
    rw [dg_step m c t (by omega), dg_start m c (prev t) (by rw [prev_val]; omega), zero_add, show t.val / 2 = 0 by omega, Finset.sum_range_one]
  | succ n ih =>
    intro t ht
    rw [dg_step m c t (by omega), (kept m c (prev t) (by rw [prev_val]; omega) (by rw [prev_val]; omega)).2,
      ih (prev (prev t)) (by rw [prev_val, prev_val]; omega), show t.val / 2 = n + 1 by omega, Finset.sum_range_succ _ (n + 1)]

/-! ## The arrays -/

theorem arr_dx : (dats m 0 c).arrAt 7 cfg0.N = (fun y => (arr m c).dxo (y 0) (y 1) : Vec Ideal S8192x1024 .f32) := by
  refine (dats m 0 c).arrAt_eq_of_covers 7 _ (by decide +kernel) fun t hf y => ?_
  blk_simp
  rw [after0_7]
  refine (out_dx m c t ((flush0_7 t).mp hf) y).trans (congrArg₂ (arr m c).dxo (Fin.ext ?_) (Fin.ext ?_))
  · refine (tok_val (tile_lt t) _).trans ?_
    blk_simp [idx t]
  · blk_simp [idx t]

theorem arr_a : (dats m 0 c).arrAt 8 cfg0.N = (fun y => (arr m c).a (y 0) (y 1) : Vec Ideal S8192x2816 .bf16) := by
  refine (dats m 0 c).arrAt_eq_of_covers 8 _ (by decide +kernel) fun t hf y => ?_
  blk_simp
  rw [after0_8]
  refine (out_a m c t y).trans (congrArg₂ (arr m c).a (Fin.ext ?_) (Fin.ext ?_))
  · refine (tok_val (tile_lt t) _).trans ?_
    blk_simp [idx t]
  · refine (col_val (half_lt t) _).trans ?_
    blk_simp [idx t]

theorem arr_b : (dats m 0 c).arrAt 9 cfg0.N = (fun y => (arr m c).b (y 0) (y 1) : Vec Ideal S8192x2816 .bf16) := by
  refine (dats m 0 c).arrAt_eq_of_covers 9 _ (by decide +kernel) fun t hf y => ?_
  blk_simp
  rw [after0_9]
  refine (out_b m c t y).trans (congrArg₂ (arr m c).b (Fin.ext ?_) (Fin.ext ?_))
  · refine (tok_val (tile_lt t) _).trans ?_
    blk_simp [idx t]
  · refine (col_val (half_lt t) _).trans ?_
    blk_simp [idx t]

theorem arr_s : (dats m 0 c).arrAt 10 cfg0.N = (fun y => (arr m c).s (y 0) (y 1) : Vec Ideal S8192x2816 .bf16) := by
  refine (dats m 0 c).arrAt_eq_of_covers 10 _ (by decide +kernel) fun t hf y => ?_
  blk_simp
  rw [after0_10]
  refine (out_s m c t y).trans (congrArg₂ (arr m c).s (Fin.ext ?_) (Fin.ext ?_))
  · refine (tok_val (tile_lt t) _).trans ?_
    blk_simp [idx t]
  · refine (col_val (half_lt t) _).trans ?_
    blk_simp [idx t]

/-- The last point. -/
def t_end : Fin cfg0.N := ⟨31, by decide⟩

theorem t_end_val : t_end.val = 2 * 15 + 1 := rfl

theorem end_loss (k l : Fin 1) : (left m c t_end).2.2.2.2.1 (ix2 k l) = (arr m c).loss := by
  refine (loss_tiles m c k l 15 t_end t_end_val).trans ((half_sum _ 16).trans ?_)
  exact congrArg (half * ·) (sum_toks (arr m c).part)

theorem end_dg (k : Fin 1) (j) : (left m c t_end).2.2.2.2.2.1 (ix2 k j) = (arr m c).dgf j :=
  (dg_tiles m c k j 15 t_end t_end_val).trans (sum_toks fun s => (arr m c).dy s j * ((arr m c).xo s j * (arr m c).rf s))

theorem after_loss : (dats m 0 c).after 11 t_end = (left m c t_end).2.2.2.2.1 := after0_11 m c t_end

theorem after_dg : (dats m 0 c).after 12 t_end = (left m c t_end).2.2.2.2.2.1 := after0_12 m c t_end

theorem arr_loss : (dats m 0 c).arrAt 11 cfg0.N = (fun _ => (arr m c).loss : Vec Ideal S1x1 .f32) := by
  refine (dats m 0 c).arrAt_eq_of_after_last 11 t_end (by decide +kernel) _ fun y => ?_
  blk_simp
  rw [after_loss]
  obtain ⟨k, l, rfl⟩ : ∃ (k : Fin 1) (l : Fin 1), y = ix2 k l := ⟨y 0, y 1, eq_ix2 y⟩
  exact end_loss m c k l

theorem arr_dg : (dats m 0 c).arrAt 12 cfg0.N = (fun y => (arr m c).dgf (y 1) : Vec Ideal S1x1024 .f32) := by
  refine (dats m 0 c).arrAt_eq_of_after_last 12 t_end (by decide +kernel) _ fun y => ?_
  blk_simp
  rw [after_dg]
  obtain ⟨k, j, rfl⟩ : ∃ (k : Fin 1) (j : Fin 1024), y = ix2 k j := ⟨y 0, y 1, eq_ix2 y⟩
  exact end_dg m c k j

end Cert.Proof.LastLayer

end
-- ==== Proof.HeadRuns.lean ====
/- The last layer's programs' runs, each to the same six arrays where the arguments are real numbers. -/
module

public import proofs.«01_k».proof.Defs
public import proofs.«01_k».proof.Proof.Head
public import proofs.«01_k».proof.Proof.Finite
public import proofs.«01_k».proof.Proof.Gen.Kernel6
public import proofs.«01_k».proof.Proof.Gen.Reference6Ideal.Run

@[expose] public section

set_option maxRecDepth 16384

noncomputable section

namespace Cert.Proof.LastLayer

open Idealize.ShloMosaic Idealize.ShloMosaic.TcCoe Idealize.SL.Sem Idealize.ShloMosaic.Pointwise

section
open Cert.Kernel6Ideal Cert.Kernel6Ideal.Gen
variable (m : (ℓ : Loc nD τ sig) → Buf (Elt Ideal) ℓ) (c : Dev nD)

theorem res_dx : (dats m 0 c).arrAt 7 cfg0.N = table (arr m c).dxo := arr_dx m c
theorem res_a : (dats m 0 c).arrAt 8 cfg0.N = table (arr m c).a := arr_a m c
theorem res_b : (dats m 0 c).arrAt 9 cfg0.N = table (arr m c).b := arr_b m c
theorem res_s : (dats m 0 c).arrAt 10 cfg0.N = table (arr m c).s := arr_s m c
theorem res_loss : (dats m 0 c).arrAt 11 cfg0.N = table fun (_ _ : Fin 1) => (arr m c).loss := arr_loss m c
theorem res_dg : (dats m 0 c).arrAt 12 cfg0.N = row (arr m c).dgf := arr_dg m c

set_option maxHeartbeats 4000000 in
theorem kernel_run (ρ : Dev nD → PrngReg) :
    θ_run defs (onTc (τ := τ) (main (F := Ideal))) ⟨m, fun _ => 0, ρ⟩ fun r => ∀ c : Dev nD,
      r.2.mem (c.tc.loc main_v5_0) = table (arr m c).dxo ∧ r.2.mem (c.tc.loc main_v5_1) = table (arr m c).a
      ∧ r.2.mem (c.tc.loc main_v5_2) = table (arr m c).b ∧ r.2.mem (c.tc.loc main_v5_3) = table (arr m c).s
      ∧ r.2.mem (c.tc.loc main_v5_4) = table (fun (_ _ : Fin 1) => (arr m c).loss) ∧ r.2.mem (c.tc.loc main_v5_5) = row (arr m c).dgf
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) :=
  (θ_run _ _ _).mono (fun r h c => by
    obtain ⟨h0, h1, h2, h3, h4, h5, hk⟩ := h c
    rw [res_dx] at h0
    rw [res_a] at h1
    rw [res_b] at h2
    rw [res_s] at h3
    rw [res_loss m c] at h4
    rw [res_dg] at h5
    exact ⟨h0, h1, h2, h3, h4, h5, hk⟩) (Cert.Kernel6Ideal.Value.run_blocks m ρ)

end

section
open Cert.Reference6Ideal Cert.Reference6Ideal.Gen Cert.Reference6Ideal.Read

/-- The layer and the target of the reference's arguments. -/
def refArr (m : (ℓ : Loc nD τ sig) → Buf (Elt Ideal) ℓ) (c : Dev nD) : Head := HeadRef.arr (m (c.tc.loc main_arg0)) (m (c.tc.loc main_arg1))
  (m (c.tc.loc main_arg2)) (m (c.tc.loc main_arg3)) (m (c.tc.loc main_arg4)) (m (c.tc.loc main_arg5)) (m (c.tc.loc main_arg6))

set_option maxHeartbeats 4000000 in
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v66) = table (refArr m c).dxo ∧ r.2.mem (c.tc.loc main_v67) = table (refArr m c).a
      ∧ r.2.mem (c.tc.loc main_v68) = table (refArr m c).b ∧ r.2.mem (c.tc.loc main_v69) = table (refArr m c).s
      ∧ r.2.mem (c.tc.loc main_v70) = table (fun (_ _ : Fin 1) => (refArr m c).loss) ∧ r.2.mem (c.tc.loc main_v50) = row (refArr m c).dgf
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) :=
  (θ_run _ _ _).mono (fun r h c => by
    obtain ⟨h0, h1, h2, h3, h4, h5, hk⟩ := h c
    exact ⟨h0.trans ((val_main_v66_eq m c).trans (eq_table fun s j => HeadRef.dxo s j)),
      h1.trans ((val_main_v67_eq _ _ _).trans (eq_table fun s f => HeadRef.a_bf _ _ _ _ _ _ _ s f)),
      h2.trans ((val_main_v68_eq _ _ _).trans (eq_table fun s f => HeadRef.b_bf _ _ _ _ _ _ _ s f)),
      h3.trans ((val_main_v69_eq _ _ _ _).trans (eq_table fun s f => HeadRef.s_bf _ _ _ _ _ _ _ s f)),
      h4.trans ((val_main_v70_eq m c).trans (eq_table fun i j => HeadRef.loss _ _ _ _ _ _ _ i j)),
      h5.trans ((val_main_v50_eq m c).trans (eq_row fun i j => HeadRef.dgf i j)), hk⟩) (Cert.Reference6Ideal.Value.run m ρ)

theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6)) ∧ r.2.sem = fun _ => 0 :=
  (θ_run _ _ _).mono (fun r h => ⟨fun c => (h c).2.2.2.2.2.2, sem_eq_zero_of_no_sems (by decide) r.2⟩) (Cert.Reference6Ideal.Value.run m ρ)

end

theorem algebraic : @Cert.algebraic_Kernel6Ideal_Reference6Ideal Cert.Kernel6Ideal.Gen.facts Cert.Reference6Ideal.Gen.facts := by
  intro m g m' g' _ hargs
  have e (c) : refArr m' c = arr m c := by
    obtain ⟨e0, e1, e2, e3, e4, e5, e6⟩ := hargs c
    rw [refArr, e0, e1, e2, e3, e4, e5, e6, arr]
  refine ⟨fun c => table (arr m c).dxo, fun c => table (arr m c).a, fun c => table (arr m c).b, fun c => table (arr m c).s,
    fun c => table fun (_ _ : Fin 1) => (arr m c).loss, fun c => row (arr m c).dgf, kernel_run m g,
    (θ_run _ _ _).mono (fun r h c => ?_) (reference_run m' g')⟩
  have hc := h c
  rw [e] at hc
  exact hc

end Cert.Proof.LastLayer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pool_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_ffn_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Runs
public import proofs.«01_k».proof.Proof.Finite
public import proofs.«01_k».proof.Proof.BwdRuns
public import proofs.«01_k».proof.Proof.FwdRuns
public import proofs.«01_k».proof.Proof.Wgrad
public import proofs.«01_k».proof.Proof.WgradPool
public import proofs.«01_k».proof.Proof.WgradGroups
public import proofs.«01_k».proof.Proof.HeadRuns
public import Idealize.ShloMosaic.Adequacy
public import Idealize.ShloMosaic.Init

@[expose] public section

noncomputable section

namespace Cert.Proof

open Idealize.ShloMosaic Idealize.SL.Sem

theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => (∀ c : Dev Cert.ReferenceIdeal.nD,
      r.2.mem (c.tc.loc Cert.ReferenceIdeal.main_arg0) = m (c.tc.loc Cert.ReferenceIdeal.main_arg0) ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2) ∧ r.2.mem (c.tc.loc Cert.ReferenceIdeal.main_arg3) = m (c.tc.loc Cert.ReferenceIdeal.main_arg3)
      ∧ r.2.mem (c.tc.loc Cert.ReferenceIdeal.main_arg4) = m (c.tc.loc Cert.ReferenceIdeal.main_arg4) ∧ r.2.mem (c.tc.loc Cert.ReferenceIdeal.main_arg5) = m (c.tc.loc Cert.ReferenceIdeal.main_arg5)
      ∧ r.2.mem (c.tc.loc Cert.ReferenceIdeal.main_arg6) = m (c.tc.loc Cert.ReferenceIdeal.main_arg6)) ∧ r.2.sem = fun _ => 0 :=
  (θ_run _ _ _).mono (fun r h => ⟨fun c => (h c).2.2.2.2.2.2.2, sem_eq_zero_of_no_sems (by decide) r.2⟩) (Cert.ReferenceIdeal.Value.run m ρ)

theorem algebraic : @Cert.algebraic_KernelIdeal_ReferenceIdeal_pre_pool_finite Cert.KernelIdeal.Gen.facts Cert.ReferenceIdeal.Gen.facts
    Cert.Pre_pool_finite.Gen.facts := by
  intro m g m' g' hpre hargs
  refine ⟨fun c => tokens (argArr m c).dx, fun c => tokens (argArr m c).z, fun c => tokens (argArr m c).dzpre, fun c => tokens (argArr m c).du,
    fun c => tokens (argArr m c).h, fun c => lanes (argArr m c).dscale, fun c => lanes (argArr m c).dg, ?_, ?_⟩
  · refine (θ_run _ _ _).mono (fun r h c => ?_) (kernel_run m g (argArr m) (reads m))
    obtain ⟨⟨h0, h1, h2, h3, h4, h5, h6⟩, hk⟩ := h c
    exact ⟨h0, h1, h2, h3, h4, h5, h6, hk⟩
  · refine (θ_run _ _ _).mono (fun r h c => ?_) (reference_run m' g' fun c => ?_)
    · obtain ⟨⟨h0, h1, h2, h3, h4, h5, h6⟩, hk⟩ := h c
      rw [same_args (hargs c)] at h0 h1 h2 h3 h4 h5 h6
      exact ⟨h0, h1, h2, h3, h4, h5, h6, hk⟩
    · rw [same_args (hargs c)]
      exact real_of_finite _ _ _ _ _ _ _ (hpre c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_pool_finite.Gen.facts, Cert.Pre_ffn_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  Bwd.frame_kernel2, fun m ρ _ => Bwd.frame_any m ρ, fun m ρ _ => Bwd.frame_any m ρ,
  fun m ρ _ => Bwd.reference_frame m ρ, fun m ρ _ => Bwd.reference_frame m ρ,
  fun m ρ _ => Cert.Kernel3.Gen.frame m ρ, fun m ρ _ => Cert.Kernel3Ideal.Gen.frame m ρ, fun m ρ _ => Fwd.reference_frame m ρ,
  fun m ρ _ => Cert.Kernel4.Gen.frame m ρ, fun m ρ _ => Cert.Kernel4Ideal.Gen.frame m ρ, fun m ρ _ => Wgrad.reference_frame m ρ,
  fun m ρ _ => Cert.Kernel5.Gen.frame m ρ, fun m ρ _ => Cert.Kernel5Ideal.Gen.frame m ρ, fun m ρ _ => WgradPool.reference_frame m ρ,
  fun m ρ _ => Cert.Kernel6.Gen.frame m ρ, fun m ρ _ => Cert.Kernel6Ideal.Gen.frame m ρ, fun m ρ _ => LastLayer.reference_frame m ρ,
  fun m ρ _ => Cert.Kernel7.Gen.frame m ρ, fun m ρ _ => Cert.Kernel7Ideal.Gen.frame m ρ, fun m ρ _ => WgradGroups.reference_frame m ρ,
  trivial, algebraic, trivial, Bwd.algebraic, trivial, Fwd.algebraic, trivial, Wgrad.algebraic,
  trivial, WgradPool.algebraic, trivial, LastLayer.algebraic, trivial, WgradGroups.algebraic⟩

end Cert.Proof

end
